-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.PackStatement Cert.KernelIdeal.S64x512
  ∧ IdealRules.bf16_pair.Statement Cert.KernelIdeal.S128x512 Cert.KernelIdeal.S64x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x12288 : Shape := ⟨3, ![2, 3072, 12288]⟩
abbrev S6144x28672 : Shape := ⟨2, ![6144, 28672]⟩
abbrev S96x28672 : Shape := ⟨2, ![96, 28672]⟩
abbrev S12288x32 : Shape := ⟨2, ![12288, 32]⟩
abbrev S32x28672 : Shape := ⟨2, ![32, 28672]⟩
abbrev S28672 : Shape := ⟨1, ![28672]⟩
abbrev S6144x2x32 : Shape := ⟨3, ![6144, 2, 32]⟩
abbrev S2x6144x32 : Shape := ⟨3, ![2, 6144, 32]⟩
abbrev S6144x12288 : Shape := ⟨2, ![6144, 12288]⟩
abbrev S56x1x512 : Shape := ⟨3, ![56, 1, 512]⟩
abbrev S512x12288 : Shape := ⟨2, ![512, 12288]⟩
abbrev S6144x512 : Shape := ⟨2, ![6144, 512]⟩
abbrev S96x512 : Shape := ⟨2, ![96, 512]⟩
abbrev S32x512 : Shape := ⟨2, ![32, 512]⟩
abbrev S1x1x512 : Shape := ⟨3, ![1, 1, 512]⟩
abbrev S512x512 : Shape := ⟨2, ![512, 512]⟩
abbrev S12288x512 : Shape := ⟨2, ![12288, 512]⟩
abbrev S1x512 : Shape := ⟨2, ![1, 512]⟩
abbrev S8x512 : Shape := ⟨2, ![8, 512]⟩
abbrev S64x512 : Shape := ⟨2, ![64, 512]⟩
abbrev S1x64x32 : Shape := ⟨3, ![1, 64, 32]⟩
abbrev S64x32 : Shape := ⟨2, ![64, 32]⟩
abbrev S8x8x512 : Shape := ⟨3, ![8, 8, 512]⟩
abbrev S128x512 : Shape := ⟨2, ![128, 512]⟩
abbrev S512 : Shape := ⟨1, ![512]⟩
abbrev S2x3072x28672 : Shape := ⟨3, ![2, 3072, 28672]⟩

abbrev nBuf : Space → Nat
  | .hbm => 17
  | .vmem => 19
  | .smem => 0
  | _ => 0

abbrev bufTy : (tb : Table) → Fin (tcTables nBuf tb) → BufTy
  | .hbm, ⟨0, _⟩ => ⟨S2x3072x12288, .bf16⟩
  | .hbm, ⟨1, _⟩ => ⟨S6144x28672, .i8⟩
  | .hbm, ⟨2, _⟩ => ⟨S96x28672, .bf16⟩
  | .hbm, ⟨3, _⟩ => ⟨S96x28672, .bf16⟩
  | .hbm, ⟨4, _⟩ => ⟨S12288x32, .bf16⟩
  | .hbm, ⟨5, _⟩ => ⟨S32x28672, .bf16⟩
  | .hbm, ⟨6, _⟩ => ⟨S28672, .f32⟩
  | .hbm, ⟨7, _⟩ => ⟨S6144x2x32, .bf16⟩
  | .hbm, ⟨8, _⟩ => ⟨S2x6144x32, .bf16⟩
  | .hbm, ⟨9, _⟩ => ⟨S6144x12288, .bf16⟩
  | .hbm, ⟨10, _⟩ => ⟨S96x28672, .f32⟩
  | .hbm, ⟨11, _⟩ => ⟨S96x28672, .f32⟩
  | .hbm, ⟨12, _⟩ => ⟨S56x1x512, .f32⟩
  | .hbm, ⟨13, _⟩ => ⟨S6144x28672, .bf16⟩
  | .hbm, ⟨14, _⟩ => ⟨S56x1x512, .f32⟩
  | .hbm, ⟨15, _⟩ => ⟨S2x3072x28672, .bf16⟩
  | .hbm, ⟨16, _⟩ => ⟨S28672, .f32⟩
  | .local _ .vmem, ⟨0, _⟩ => ⟨S512x12288, .bf16⟩
  | .local _ .vmem, ⟨1, _⟩ => ⟨S512x12288, .bf16⟩
  | .local _ .vmem, ⟨2, _⟩ => ⟨S6144x512, .i8⟩
  | .local _ .vmem, ⟨3, _⟩ => ⟨S6144x512, .i8⟩
  | .local _ .vmem, ⟨4, _⟩ => ⟨S96x512, .f32⟩
  | .local _ .vmem, ⟨5, _⟩ => ⟨S96x512, .f32⟩
  | .local _ .vmem, ⟨6, _⟩ => ⟨S96x512, .f32⟩
  | .local _ .vmem, ⟨7, _⟩ => ⟨S96x512, .f32⟩
  | .local _ .vmem, ⟨8, _⟩ => ⟨S2x6144x32, .bf16⟩
  | .local _ .vmem, ⟨9, _⟩ => ⟨S32x512, .bf16⟩
  | .local _ .vmem, ⟨10, _⟩ => ⟨S32x512, .bf16⟩
  | .local _ .vmem, ⟨11, _⟩ => ⟨S1x1x512, .f32⟩
  | .local _ .vmem, ⟨12, _⟩ => ⟨S1x1x512, .f32⟩
  | .local _ .vmem, ⟨13, _⟩ => ⟨S512x512, .bf16⟩
  | .local _ .vmem, ⟨14, _⟩ => ⟨S512x512, .bf16⟩
  | .local _ .vmem, ⟨15, _⟩ => ⟨S1x1x512, .f32⟩
  | .local _ .vmem, ⟨16, _⟩ => ⟨S1x1x512, .f32⟩
  | .local _ .vmem, ⟨17, _⟩ => ⟨S12288x512, .bf16⟩
  | .local _ .vmem, ⟨18, _⟩ => ⟨S1x512, .f32⟩
  | _, _ => ⟨S2x3072x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![56, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c96_i32 : BitVec 32 := 96#32
  let v14 : BitVec 32 := Scalar.addi c0_i32_11 c96_i32
  let c1_i32 : BitVec 32 := 1#32
  ⟨c0_i32_11, v14, c1_i32⟩
def k0_mult1 (k0_t1 : Fin k0_t1_loop.trips) : BitVec 32 :=
  let c0_i32_11 : BitVec 32 := 0#32
  let c1_i32 : BitVec 32 := 1#32
  let arg13 : BitVec 32 := Scf.iv c0_i32_11 c1_i32 k0_t1
  let c64_i32 : BitVec 32 := 64#32
  let v28 : BitVec 32 := Scalar.muli arg13 c64_i32
  v28
def k0_off1 (k0_t1 : Fin k0_t1_loop.trips) : Fin 2 → Nat :=
  let c0_i32_11 : BitVec 32 := 0#32
  let c1_i32 : BitVec 32 := 1#32
  let arg13 : BitVec 32 := Scf.iv c0_i32_11 c1_i32 k0_t1
  let c64_i32 : BitVec 32 := 64#32
  let v28 : BitVec 32 := Scalar.muli arg13 c64_i32
  let v29 : BitVec 32 := v28
  let v30 : Index := Scalar.indexCast v29
  let c0_22 : Index := 0#32
  ![v30.toNat, 0]
def k0_off2 (k0_t1 : Fin k0_t1_loop.trips) : Fin 2 → Nat :=
  let c0_i32_11 : BitVec 32 := 0#32
  let c1_i32 : BitVec 32 := 1#32
  let arg13 : BitVec 32 := Scf.iv c0_i32_11 c1_i32 k0_t1
  let v33 : Index := Scalar.indexCast arg13
  let c0_23 : Index := 0#32
  ![v33.toNat, 0]
def k0_off3 (k0_t1 : Fin k0_t1_loop.trips) : Fin 3 → Nat :=
  let c0_25 : Index := 0#32
  let c0_i32_11 : BitVec 32 := 0#32
  let c1_i32 : BitVec 32 := 1#32
  let arg13 : BitVec 32 := Scf.iv c0_i32_11 c1_i32 k0_t1
  let c64_i32 : BitVec 32 := 64#32
  let v28 : BitVec 32 := Scalar.muli arg13 c64_i32
  let v29 : BitVec 32 := v28
  let v50 : Index := Scalar.indexCast v29
  let c0_26 : Index := 0#32
  ![0, v50.toNat, 0]
def k0_off4 (k0_t1 : Fin k0_t1_loop.trips) : Fin 3 → Nat :=
  let c1 : Index := 1#32
  let c0_i32_11 : BitVec 32 := 0#32
  let c1_i32 : BitVec 32 := 1#32
  let arg13 : BitVec 32 := Scf.iv c0_i32_11 c1_i32 k0_t1
  let c64_i32 : BitVec 32 := 64#32
  let v28 : BitVec 32 := Scalar.muli arg13 c64_i32
  let v29 : BitVec 32 := v28
  let v74 : Index := Scalar.indexCast v29
  let c0_31 : Index := 0#32
  ![1, v74.toNat, 0]
def k0_mult2 (k0_t1 : Fin k0_t1_loop.trips) : BitVec 32 :=
  let c0_i32_11 : BitVec 32 := 0#32
  let c1_i32 : BitVec 32 := 1#32
  let arg13 : BitVec 32 := Scf.iv c0_i32_11 c1_i32 k0_t1
  let c128_i32 : BitVec 32 := 128#32
  let v87 : BitVec 32 := Scalar.muli arg13 c128_i32
  v87
def k0_off5 (k0_t1 : Fin k0_t1_loop.trips) : Fin 2 → Nat :=
  let c0_i32_11 : BitVec 32 := 0#32
  let c1_i32 : BitVec 32 := 1#32
  let arg13 : BitVec 32 := Scf.iv c0_i32_11 c1_i32 k0_t1
  let c128_i32 : BitVec 32 := 128#32
  let v87 : BitVec 32 := Scalar.muli arg13 c128_i32
  let v88 : BitVec 32 := v87
  let v89 : Index := Scalar.indexCast v88
  let c0_35 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S96x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S96x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x6144x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F]
-- ==== ReferenceIdeal.lean ====
abbrev S2x3072x12288 : Shape := ⟨3, ![2, 3072, 12288]⟩
abbrev S6144x28672 : Shape := ⟨2, ![6144, 28672]⟩
abbrev S96x28672 : Shape := ⟨2, ![96, 28672]⟩
abbrev S12288x32 : Shape := ⟨2, ![12288, 32]⟩
abbrev S32x28672 : Shape := ⟨2, ![32, 28672]⟩
abbrev S28672 : Shape := ⟨1, ![28672]⟩
abbrev S96x64x28672 : Shape := ⟨3, ![96, 64, 28672]⟩
abbrev S_ : Shape := ⟨0, ![]⟩
abbrev S6144x32 : Shape := ⟨2, ![6144, 32]⟩
abbrev S2x3072x6144 : Shape := ⟨3, ![2, 3072, 6144]⟩
abbrev S2x3072x28672 : Shape := ⟨3, ![2, 3072, 28672]⟩
abbrev S1x1x28672 : Shape := ⟨3, ![1, 1, 28672]⟩

abbrev nBuf : Space → Nat
  | .hbm => 61
  | .vmem => 0
  | .smem => 0
  | _ => 0

abbrev bufTy : (tb : Table) → Fin (tcTables nBuf tb) → BufTy
  | .hbm, ⟨0, _⟩ => ⟨S2x3072x12288, .bf16⟩
  | .hbm, ⟨1, _⟩ => ⟨S6144x28672, .i8⟩
  | .hbm, ⟨2, _⟩ => ⟨S96x28672, .bf16⟩
  | .hbm, ⟨3, _⟩ => ⟨S96x28672, .bf16⟩
  | .hbm, ⟨4, _⟩ => ⟨S12288x32, .bf16⟩
  | .hbm, ⟨5, _⟩ => ⟨S32x28672, .bf16⟩
  | .hbm, ⟨6, _⟩ => ⟨S28672, .f32⟩
  | .hbm, ⟨7, _⟩ => ⟨S96x64x28672, .bf16⟩
  | .hbm, ⟨8, _⟩ => ⟨S6144x28672, .bf16⟩
  | .hbm, ⟨9, _⟩ => ⟨S96x64x28672, .bf16⟩
  | .hbm, ⟨10, _⟩ => ⟨S6144x28672, .bf16⟩
  | .hbm, ⟨11, _⟩ => ⟨S6144x28672, .i32⟩
  | .hbm, ⟨12, _⟩ => ⟨S_, .i32⟩
  | .hbm, ⟨13, _⟩ => ⟨S6144x28672, .i32⟩
  | .hbm, ⟨14, _⟩ => ⟨S6144x28672, .i32⟩
  | .hbm, ⟨15, _⟩ => ⟨S_, .i32⟩
  | .hbm, ⟨16, _⟩ => ⟨S6144x28672, .i32⟩
  | .hbm, ⟨17, _⟩ => ⟨S6144x28672, .i32⟩
  | .hbm, ⟨18, _⟩ => ⟨S_, .i32⟩
  | .hbm, ⟨19, _⟩ => ⟨S6144x28672, .i32⟩
  | .hbm, ⟨20, _⟩ => ⟨S6144x28672, .i32⟩
  | .hbm, ⟨21, _⟩ => ⟨S6144x32, .bf16⟩
  | .hbm, ⟨22, _⟩ => ⟨S6144x28672, .bf16⟩
  | .hbm, ⟨23, _⟩ => ⟨S6144x28672, .bf16⟩
  | .hbm, ⟨24, _⟩ => ⟨S6144x28672, .bf16⟩
  | .hbm, ⟨25, _⟩ => ⟨S6144x28672, .f32⟩
  | .hbm, ⟨26, _⟩ => ⟨S6144x28672, .f32⟩
  | .hbm, ⟨27, _⟩ => ⟨S_, .f32⟩
  | .hbm, ⟨28, _⟩ => ⟨S6144x28672, .f32⟩
  | .hbm, ⟨29, _⟩ => ⟨S6144x28672, .f32⟩
  | .hbm, ⟨30, _⟩ => ⟨S6144x28672, .f32⟩
  | .hbm, ⟨31, _⟩ => ⟨S6144x32, .bf16⟩
  | .hbm, ⟨32, _⟩ => ⟨S6144x28672, .bf16⟩
  | .hbm, ⟨33, _⟩ => ⟨S6144x28672, .bf16⟩
  | .hbm, ⟨34, _⟩ => ⟨S6144x28672, .bf16⟩
  | .hbm, ⟨35, _⟩ => ⟨S6144x28672, .f32⟩
  | .hbm, ⟨36, _⟩ => ⟨S6144x28672, .f32⟩
  | .hbm, ⟨37, _⟩ => ⟨S_, .f32⟩
  | .hbm, ⟨38, _⟩ => ⟨S6144x28672, .f32⟩
  | .hbm, ⟨39, _⟩ => ⟨S6144x28672, .f32⟩
  | .hbm, ⟨40, _⟩ => ⟨S6144x28672, .f32⟩
  | .hbm, ⟨41, _⟩ => ⟨S6144x28672, .f32⟩
  | .hbm, ⟨42, _⟩ => ⟨S_, .f32⟩
  | .hbm, ⟨43, _⟩ => ⟨S28672, .f32⟩
  | .hbm, ⟨44, _⟩ => ⟨S6144x28672, .f32⟩
  | .hbm, ⟨45, _⟩ => ⟨S_, .f32⟩
  | .hbm, ⟨46, _⟩ => ⟨S28672, .f32⟩
  | .hbm, ⟨47, _⟩ => ⟨S28672, .f32⟩
  | .hbm, ⟨48, _⟩ => ⟨S28672, .f32⟩
  | .hbm, ⟨49, _⟩ => ⟨S2x3072x6144, .bf16⟩
  | .hbm, ⟨50, _⟩ => ⟨S6144x28672, .bf16⟩
  | .hbm, ⟨51, _⟩ => ⟨S2x3072x28672, .f32⟩
  | .hbm, ⟨52, _⟩ => ⟨S2x3072x6144, .bf16⟩
  | .hbm, ⟨53, _⟩ => ⟨S6144x28672, .bf16⟩
  | .hbm, ⟨54, _⟩ => ⟨S2x3072x28672, .f32⟩
  | .hbm, ⟨55, _⟩ => ⟨S2x3072x28672, .f32⟩
  | .hbm, ⟨56, _⟩ => ⟨S28672, .f32⟩
  | .hbm, ⟨57, _⟩ => ⟨S1x1x28672, .f32⟩
  | .hbm, ⟨58, _⟩ => ⟨S2x3072x28672, .f32⟩
  | .hbm, ⟨59, _⟩ => ⟨S2x3072x28672, .f32⟩
  | .hbm, ⟨60, _⟩ => ⟨S2x3072x28672, .bf16⟩
  | _, _ => ⟨S2x3072x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.KernelFrame.Runs.lean ====
/-
  THE KERNEL'S FRAME, the part its runs share: @main around its one region, the arrays' contents there, the body's branch
  condition in closed form over the grid points, where the windows are idle, and the staging and scratch memrefs.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the launch draw no fresh values. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v7, main_v8}
/-- The host operations after the launch write the two results alone. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c)),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 672 := Nat.lt_of_lt_of_eq t.isLt N_0
    have e0 : (grid0.coords t 0).val = t.val / 12 % 56 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x6144x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S12288x512 .bf16 := Memref.whole cc0_scratch0
abbrev scM0_1 : Memref sig .tc .vmem S1x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelFrame.RunA.lean ====
/-
  THE KERNEL'S FRAME, the body's run at the first point of a column tile, where it builds the merged weight. Nothing is
  named of what the outputs and the scratch hold: the frame claim reads none of it.
-/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 12, … 660: 56 of 672): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x12288 .bf16) (harg2 : arg2.IsWhole) (arg3 : Memref sig .tc .vmem S6144x512 .i8) (harg3 : arg3.IsWhole) (arg4 : Memref sig .tc .vmem S96x512 .f32) (harg4 : arg4.IsWhole) (arg5 : Memref sig .tc .vmem S96x512 .f32) (harg5 : arg5.IsWhole) (arg6 : Memref sig .tc .vmem S2x6144x32 .bf16) (harg6 : arg6.IsWhole) (arg7 : Memref sig .tc .vmem S32x512 .bf16) (harg7 : arg7.IsWhole) (arg8 : Memref sig .tc .vmem S1x1x512 .f32) (harg8 : arg8.IsWhole) (arg9 : Memref sig .tc .vmem S512x512 .bf16) (harg9 : arg9.IsWhole) (arg10 : Memref sig .tc .vmem S1x1x512 .f32) (harg10 : arg10.IsWhole) (arg11 : Memref sig .tc .vmem S12288x512 .bf16) (harg11 : arg11.IsWhole) (arg12 : Memref sig .tc .vmem S1x512 .f32) (harg12 : arg12.IsWhole) (hc0 : cond0_0 i)
    (x0 : Vec F S512x12288 .bf16) (x1 : Vec F S6144x512 .i8) (x2 : Vec F S96x512 .f32) (x3 : Vec F S96x512 .f32) (x4 : Vec F S2x6144x32 .bf16) (x5 : Vec F S32x512 .bf16) (x6 : Vec F S1x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_dora_awq i arg2 harg2 arg3 harg3 arg4 harg4 arg5 harg5 arg6 harg6 arg7 harg7 arg8 harg8 arg9 harg9 arg10 harg10 arg11 harg11 arg12 harg12) K := by
    intro E K
    simp only [cc0_dora_awq_eq_skeleton]; unfold cc0_dora_awq_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.RunB.lean ====
/-
  THE KERNEL'S FRAME, the body's run at the other points of a column tile, where it only multiplies.
-/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 671: 616 of 672): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x12288 .bf16) (harg2 : arg2.IsWhole) (arg3 : Memref sig .tc .vmem S6144x512 .i8) (harg3 : arg3.IsWhole) (arg4 : Memref sig .tc .vmem S96x512 .f32) (harg4 : arg4.IsWhole) (arg5 : Memref sig .tc .vmem S96x512 .f32) (harg5 : arg5.IsWhole) (arg6 : Memref sig .tc .vmem S2x6144x32 .bf16) (harg6 : arg6.IsWhole) (arg7 : Memref sig .tc .vmem S32x512 .bf16) (harg7 : arg7.IsWhole) (arg8 : Memref sig .tc .vmem S1x1x512 .f32) (harg8 : arg8.IsWhole) (arg9 : Memref sig .tc .vmem S512x512 .bf16) (harg9 : arg9.IsWhole) (arg10 : Memref sig .tc .vmem S1x1x512 .f32) (harg10 : arg10.IsWhole) (arg11 : Memref sig .tc .vmem S12288x512 .bf16) (harg11 : arg11.IsWhole) (arg12 : Memref sig .tc .vmem S1x512 .f32) (harg12 : arg12.IsWhole) (hc0 : ¬cond0_0 i)
    (x0 : Vec F S512x12288 .bf16) (x1 : Vec F S6144x512 .i8) (x2 : Vec F S96x512 .f32) (x3 : Vec F S96x512 .f32) (x4 : Vec F S2x6144x32 .bf16) (x5 : Vec F S32x512 .bf16) (x6 : Vec F S1x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_dora_awq i arg2 harg2 arg3 harg3 arg4 harg4 arg5 harg5 arg6 harg6 arg7 harg7 arg8 harg8 arg9 harg9 arg10 harg10 arg11 harg11 arg12 harg12) K := by
    intro E K
    simp only [cc0_dora_awq_eq_skeleton]; unfold cc0_dora_awq_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/-
  THE KERNEL'S FRAME: the proof data (inputs held at their blocks, outputs at contents not named), the body obligation, the
  launch, and `frame` — the run terminates with the argument arrays unchanged and every semaphore counter at zero.
-/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Input window 1 holds its block after the step. -/
theorem after0_1 (c : Dev nD) (t : Fin cfg0.N) : (dats m 0 c).after 1 t = iblk m c 1 t := by dsimp only [dats]
/-- Input window 2 holds its block after the step. -/
theorem after0_2 (c : Dev nD) (t : Fin cfg0.N) : (dats m 0 c).after 2 t = iblk m c 2 t := by dsimp only [dats]
/-- Input window 3 holds its block after the step. -/
theorem after0_3 (c : Dev nD) (t : Fin cfg0.N) : (dats m 0 c).after 3 t = iblk m c 3 t := by dsimp only [dats]
/-- Input window 4 holds its block after the step. -/
theorem after0_4 (c : Dev nD) (t : Fin cfg0.N) : (dats m 0 c).after 4 t = iblk m c 4 t := by dsimp only [dats]
/-- Input window 5 holds its block after the step. -/
theorem after0_5 (c : Dev nD) (t : Fin cfg0.N) : (dats m 0 c).after 5 t = iblk m c 5 t := by dsimp only [dats]
/-- Input window 6 holds its block after the step. -/
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input window 1 holds its block before the step. -/
theorem before0_1 (c : Dev nD) (t : Fin cfg0.N) (d) : (dats m 0 c).before 1 t d = iblk m c 1 t :=
  before0_1_of m (dats m 0 c) (A_eq m c 1) (after0_1 m c) t d
/-- Input window 2 holds its block before the step. -/
theorem before0_2 (c : Dev nD) (t : Fin cfg0.N) (d) : (dats m 0 c).before 2 t d = iblk m c 2 t :=
  before0_2_of m (dats m 0 c) (A_eq m c 2) (after0_2 m c) t d
/-- Input window 3 holds its block before the step. -/
theorem before0_3 (c : Dev nD) (t : Fin cfg0.N) (d) : (dats m 0 c).before 3 t d = iblk m c 3 t :=
  before0_3_of m (dats m 0 c) (A_eq m c 3) (after0_3 m c) t d
/-- Input window 4 holds its block before the step. -/
theorem before0_4 (c : Dev nD) (t : Fin cfg0.N) (d) : (dats m 0 c).before 4 t d = iblk m c 4 t :=
  before0_4_of m (dats m 0 c) (A_eq m c 4) (after0_4 m c) t d
/-- Input window 5 holds its block before the step. -/
theorem before0_5 (c : Dev nD) (t : Fin cfg0.N) (d) : (dats m 0 c).before 5 t d = iblk m c 5 t :=
  before0_5_of m (dats m 0 c) (A_eq m c 5) (after0_5 m c) t d
/-- Input window 6 holds its block before the step. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 672 := lt_of_lt_of_eq t.isLt (show cfg0.N = 672 from N_0)
  by_cases h0 : t.val % 12 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.IdealPoints.lean ====
/-
  WHERE THE BODY IS IN THE GRID: its branch condition in closed form over the points (it builds the merged weight at the
  first point of each column tile), which windows are idle, and the staging and scratch memrefs by name.
-/
module

public import proofs.«01_k».proof.Proof.Gen.KernelIdeal.Frame

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 672 := Nat.lt_of_lt_of_eq t.isLt N_0
    have e0 : (grid0.coords t 0).val = t.val / 12 % 56 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x6144x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S12288x512 .bf16 := Memref.whole cc0_scratch0
abbrev scM0_1 : Memref sig .tc .vmem S1x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Tile

end
-- ==== Proof.WholeStore.lean ====
/-
  A whole-buffer store read back, and a whole-buffer load: both are the contents themselves.
-/
module

public import Idealize.ShloMosaic.Lib.Writes
public import Idealize.ShloMosaic.Lib.Pipeline.FrameBody
public import Idealize.ShloMosaic.Lib.Pipeline.Value

@[expose] public section

namespace Cert.KernelIdeal.Tile

open Idealize.ShloMosaic

/-- Rank-2 zero offsets. -/
theorem zero2 : (![0, 0] : Fin 2 → ℕ) = fun _ => 0 := by funext a; match a with | ⟨0, _⟩ => rfl | ⟨1, _⟩ => rfl
/-- Rank-3 zero offsets. -/
theorem zero3 : (![0, 0, 0] : Fin 3 → ℕ) = fun _ => 0 := by
  funext a; match a with | ⟨0, _⟩ => rfl | ⟨1, _⟩ => rfl | ⟨2, _⟩ => rfl

variable {sig : RefSig} {κ : Kind} {sp : Space} {S : Shape} {e : EltTy} {Val : EltTy → Type}

/-- A whole-buffer store, newest, reads back as what was stored. -/
theorem read_store_whole (v : View sig κ sp S e) (f : v.ty.Contents Val) {off : Fin S.rank → ℕ} (h : off = fun _ => 0)
    (inb : ∀ a, off a + S.size a ≤ S.size a) (p : S.Idx → Val e) (L : List (View.Piece Val S e)) :
    v.read Val (v.writes Val f (⟨Rect.unit off S.size inb, p⟩ :: L)) = p := by
  subst h
  funext y
  have hz : (Rect.unit (fun _ => 0) S.size inb).emb y = y := Rect.emb_whole_apply S y
  exact View.read_writes_cons_hit v f (Rect.unit (fun _ => 0) S.size inb) p L y y hz

/-- A whole-buffer load reads the contents. -/
theorem load_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

end Cert.KernelIdeal.Tile
-- ==== Proof.BlockValue.lean ====
/-
  WHAT ONE COLUMN TILE COMPUTES, as plain functions of the tile's input blocks: the rows of one scale group, the 128
  rows of the merged weight a group produces, the running sum of squares, and the four things the body stores (the
  merged weight, the norm row, the rescale row and the output tile).
-/
module

public import proofs.«01_k».proof.Proof.Gen.KernelIdeal.Skeleton
public import Idealize.ShloMosaic.Lib.ValueIdxCore

@[expose] public section

noncomputable section

namespace Cert.KernelIdeal.Tile

open Idealize.ShloMosaic Idealize.ShloMosaic.ValueIdx
open Cert.KernelIdeal.Gen

variable {F : FTy → Type} [FloatOps F]

/-- The 64 rows of packed codes of group `k`. -/
def codes (x1 : Vec F S6144x512 .i8) (k : ℕ) : Vec F S64x512 .i8 :=
  fun y => x1 (ix2 ⟨(64 * k + (y 0).val) % 6144, Nat.mod_lt _ (by omega)⟩ (y 1))

/-- The row of scales (or of zero points) of group `k`. -/
def groupRow (x2 : Vec F S96x512 .f32) (k : ℕ) : Vec F S1x512 .f32 :=
  fun y => x2 (ix2 ⟨k % 96, Nat.mod_lt _ (by omega)⟩ (y 1))

/-- The 64 rows of the low-rank factor's plane `p` (0: even rows, 1: odd rows) that group `k` reads. -/
def factor (x4 : Vec F S2x6144x32 .bf16) (p : Fin 2) (k : ℕ) : Vec F S1x64x32 .bf16 :=
  fun y => x4 (ix3 p ⟨(64 * k + (y 1).val) % 6144, Nat.mod_lt _ (by omega)⟩ (y 2))

/-- The 128 rows of the merged weight that group `k` stores. -/
def piece (x1 : Vec F S6144x512 .i8) (x2 x3 : Vec F S96x512 .f32) (x4 : Vec F S2x6144x32 .bf16)
    (x5 : Vec F S32x512 .bf16) (k : ℕ) : FVec F S128x512 .bf16 :=
  k0_pay4 x5 (k0_pay12 x5 (codes x1 k) (groupRow x2 k) (groupRow x3 k) (factor x4 0 k))
    (k0_pay14 (codes x1 k) (groupRow x2 k) (groupRow x3 k)) (factor x4 1 k)

/-- The eight running sums of squares before group `k`. -/
def acc (x1 : Vec F S6144x512 .i8) (x2 x3 : Vec F S96x512 .f32) (x4 : Vec F S2x6144x32 .bf16)
    (x5 : Vec F S32x512 .bf16) : ℕ → FVec F S8x512 .f32
  | 0 => k0_pay1
  | k + 1 => k0_pay3 x5 (k0_pay13 x5 (acc x1 x2 x3 x4 x5 k) (codes x1 k) (groupRow x2 k) (groupRow x3 k) (factor x4 0 k))
      (k0_pay14 (codes x1 k) (groupRow x2 k) (groupRow x3 k)) (factor x4 1 k)

/-- The merged weight of the column tile: row `r` is row `r % 128` of group `r / 128`. -/
def weight (x1 : Vec F S6144x512 .i8) (x2 x3 : Vec F S96x512 .f32) (x4 : Vec F S2x6144x32 .bf16)
    (x5 : Vec F S32x512 .bf16) : Vec F S12288x512 .bf16 :=
  fun y => piece x1 x2 x3 x4 x5 ((y 0).val / 128) (ix2 ⟨(y 0).val % 128, Nat.mod_lt _ (by omega)⟩ (y 1))

/-- The norm row of the column tile. -/
def norm (x1 : Vec F S6144x512 .i8) (x2 x3 : Vec F S96x512 .f32) (x4 : Vec F S2x6144x32 .bf16)
    (x5 : Vec F S32x512 .bf16) : Vec F S1x1x512 .f32 := k0_pay6 (acc x1 x2 x3 x4 x5 96)

/-- The rescale row of the column tile: magnitude over norm. -/
def scale (x1 : Vec F S6144x512 .i8) (x2 x3 : Vec F S96x512 .f32) (x4 : Vec F S2x6144x32 .bf16)
    (x5 : Vec F S32x512 .bf16) (x6 : Vec F S1x1x512 .f32) : Vec F S1x512 .f32 := k0_pay7 (acc x1 x2 x3 x4 x5 96) x6

/-- A merged-weight entry, by its group and its row inside the group. -/
theorem weight_apply (x1 : Vec F S6144x512 .i8) (x2 x3 : Vec F S96x512 .f32) (x4 : Vec F S2x6144x32 .bf16)
    (x5 : Vec F S32x512 .bf16) (y : S12288x512.Idx) (k : ℕ) (r : Fin 128) (c : Fin 512) (h : (y 0).val = 128 * k + r.val)
    (hc : (y 1).val = c.val) :
    weight x1 x2 x3 x4 x5 y = piece x1 x2 x3 x4 x5 k (ix2 r c) := by
  have h1 : (y 0).val / 128 = k := by omega
  have h2 : (⟨(y 0).val % 128, Nat.mod_lt _ (by omega)⟩ : Fin 128) = r := Fin.ext (by simp only; omega)
  have h3 : y 1 = c := Fin.ext hc
  unfold weight
  rw [h1, h2, h3]

end Cert.KernelIdeal.Tile

end
-- ==== Proof.LoopValue.lean ====
/-
  THE LOOP THAT BUILDS THE MERGED WEIGHT, by its values: one trip reads group `k`'s rows and stores the group's 128 rows of
  the merged weight; after all 96 trips the scratch reads `Tile.weight` and the carried sums are `Tile.acc … 96`.
-/
module

public import proofs.«01_k».proof.Proof.BlockValue
public import proofs.«01_k».proof.Proof.Gen.KernelIdeal.Loops
public import Idealize.ShloMosaic.Lib.Tactic
public import Idealize.ShloMosaic.Lib.Pipeline.FrameBody
public import Idealize.ShloMosaic.Lib.Pipeline.Value
public import Idealize.ShloMosaic.Lib.Pipeline.ValueKit.Tiles

@[expose] public section

set_option maxRecDepth 8192

noncomputable section

namespace Cert.KernelIdeal.Tile

open Idealize.ShloMosaic Idealize.ShloMosaic.TcCoe Idealize.ShloMosaic.Tactic Idealize.ShloMosaic.ValueIdx
open Idealize.SL Idealize.SL.RA Idealize.SL.BI
open Idealize.SL.Sem
open Cert.KernelIdeal.Gen

variable {F : FTy → Type} [FloatOps F]

/-- Reading group `k`'s codes is `codes`. -/
theorem ld_codes (x1 : Vec F S6144x512 .i8) (k : ℕ) (hk : k < 96) (off : Fin 2 → ℕ) (h : off = ![64 * k, 0])
    (inb : ∀ a, off a + S64x512.size a ≤ S6144x512.size a) :
    View.ld x1 (Rect.unit (s := S6144x512) off S64x512.size inb) = codes x1 k := by
  subst h
  funext y
  change S64x512.Idx at y
  have hy : (y 0).val < 64 := (y 0).isLt
  refine View.ld_unit_apply_of x1 _ _ _ y _ fun a => ?_
  match a with
  | ⟨0, _⟩ => exact Nat.mod_eq_of_lt (by omega)
  | ⟨1, _⟩ => exact (Nat.zero_add _).symm

/-- Reading group `k`'s row of scales or zero points is `groupRow`. -/
theorem ld_groupRow (x2 : Vec F S96x512 .f32) (k : ℕ) (hk : k < 96) (off : Fin 2 → ℕ) (h : off = ![k, 0])
    (inb : ∀ a, off a + S1x512.size a ≤ S96x512.size a) :
    View.ld x2 (Rect.unit (s := S96x512) off S1x512.size inb) = groupRow x2 k := by
  subst h
  funext y
  change S1x512.Idx at y
  have hy : (y 0).val < 1 := (y 0).isLt
  refine View.ld_unit_apply_of x2 _ _ _ y _ fun a => ?_
  match a with
  | ⟨0, _⟩ => exact (Nat.mod_eq_of_lt hk).trans (by show k = k + (y 0).val; omega)
  | ⟨1, _⟩ => exact (Nat.zero_add _).symm

/-- Reading group `k`'s rows of the low-rank factor's plane `p` is `factor … p`. -/
theorem ld_factor (x4 : Vec F S2x6144x32 .bf16) (p : Fin 2) (k : ℕ) (hk : k < 96) (off : Fin 3 → ℕ)
    (h : off = ![p.val, 64 * k, 0]) (inb : ∀ a, off a + S1x64x32.size a ≤ S2x6144x32.size a) :
    View.ld x4 (Rect.unit (s := S2x6144x32) off S1x64x32.size inb) = factor x4 p k := by
  subst h
  funext y
  change S1x64x32.Idx at y
  have hy0 : (y 0).val < 1 := (y 0).isLt
  have hy1 : (y 1).val < 64 := (y 1).isLt
  refine View.ld_unit_apply_of x4 _ _ _ y _ fun a => ?_
  match a with
  | ⟨0, _⟩ => show p.val = p.val + (y 0).val; omega
  | ⟨1, _⟩ => exact Nat.mod_eq_of_lt (by omega)
  | ⟨2, _⟩ => exact (Nat.zero_add _).symm

/-- One trip's carried value and its one store, over what it reads. -/
theorem trip_eq (𝒱 : Variants) (c : Dev nD) (bd : Option 𝒱.V) (i : grid0.Coords) (arg2 : Memref sig .tc .vmem S512x12288 .bf16) (harg2 : arg2.IsWhole)
    (arg3 : Memref sig .tc .vmem S6144x512 .i8) (harg3 : arg3.IsWhole) (arg4 : Memref sig .tc .vmem S96x512 .f32) (harg4 : arg4.IsWhole)
    (arg5 : Memref sig .tc .vmem S96x512 .f32) (harg5 : arg5.IsWhole) (arg6 : Memref sig .tc .vmem S2x6144x32 .bf16) (harg6 : arg6.IsWhole)
    (arg7 : Memref sig .tc .vmem S32x512 .bf16) (harg7 : arg7.IsWhole) (arg8 : Memref sig .tc .vmem S1x1x512 .f32) (harg8 : arg8.IsWhole)
    (arg9 : Memref sig .tc .vmem S512x512 .bf16) (harg9 : arg9.IsWhole) (arg10 : Memref sig .tc .vmem S1x1x512 .f32) (harg10 : arg10.IsWhole)
    (arg11 : Memref sig .tc .vmem S12288x512 .bf16) (harg11 : arg11.IsWhole) (arg12 : Memref sig .tc .vmem S1x512 .f32) (harg12 : arg12.IsWhole)
    (k0_h1 : k0_cond1 i = 1#1) (v12 : Vec F S32x512 .bf16) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (k : Fin k0_t1_loop.trips) (a : FVec F S8x512 .f32) :
    tripR_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k a
      = k0_pay3 v12 (k0_pay13 v12 a (arg3.view.readAt (Elt F) (Rect.unit (s := S6144x512) (k0_off1 k) S64x512.size (k0_off1_inb i k k0_h1)).toLoadRect X_arg3) (arg4.view.readAt (Elt F) (Rect.unit (s := S96x512) (k0_off2 k) S1x512.size (k0_off2_inb i k k0_h1)).toLoadRect X_arg4) (arg5.view.readAt (Elt F) (Rect.unit (s := S96x512) (k0_off2 k) S1x512.size (k0_off2_inb i k k0_h1)).toLoadRect X_arg5) (arg6.view.readAt (Elt F) (Rect.unit (s := S2x6144x32) (k0_off3 k) S1x64x32.size (k0_off3_inb i k k0_h1)).toLoadRect X_arg6))
          (k0_pay14 (arg3.view.readAt (Elt F) (Rect.unit (s := S6144x512) (k0_off1 k) S64x512.size (k0_off1_inb i k k0_h1)).toLoadRect X_arg3) (arg4.view.readAt (Elt F) (Rect.unit (s := S96x512) (k0_off2 k) S1x512.size (k0_off2_inb i k k0_h1)).toLoadRect X_arg4) (arg5.view.readAt (Elt F) (Rect.unit (s := S96x512) (k0_off2 k) S1x512.size (k0_off2_inb i k k0_h1)).toLoadRect X_arg5)) (arg6.view.readAt (Elt F) (Rect.unit (s := S2x6144x32) (k0_off4 k) S1x64x32.size (k0_off4_inb i k k0_h1)).toLoadRect X_arg6)
    ∧ tripL_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k a
      = [⟨Rect.unit (s := S12288x512) (k0_off5 k) S128x512.size (k0_off5_inb i k k0_h1),
          k0_pay4 v12 (k0_pay12 v12 (arg3.view.readAt (Elt F) (Rect.unit (s := S6144x512) (k0_off1 k) S64x512.size (k0_off1_inb i k k0_h1)).toLoadRect X_arg3) (arg4.view.readAt (Elt F) (Rect.unit (s := S96x512) (k0_off2 k) S1x512.size (k0_off2_inb i k k0_h1)).toLoadRect X_arg4) (arg5.view.readAt (Elt F) (Rect.unit (s := S96x512) (k0_off2 k) S1x512.size (k0_off2_inb i k k0_h1)).toLoadRect X_arg5) (arg6.view.readAt (Elt F) (Rect.unit (s := S2x6144x32) (k0_off3 k) S1x64x32.size (k0_off3_inb i k k0_h1)).toLoadRect X_arg6))
            (k0_pay14 (arg3.view.readAt (Elt F) (Rect.unit (s := S6144x512) (k0_off1 k) S64x512.size (k0_off1_inb i k k0_h1)).toLoadRect X_arg3) (arg4.view.readAt (Elt F) (Rect.unit (s := S96x512) (k0_off2 k) S1x512.size (k0_off2_inb i k k0_h1)).toLoadRect X_arg4) (arg5.view.readAt (Elt F) (Rect.unit (s := S96x512) (k0_off2 k) S1x512.size (k0_off2_inb i k k0_h1)).toLoadRect X_arg5)) (arg6.view.readAt (Elt F) (Rect.unit (s := S2x6144x32) (k0_off4 k) S1x64x32.size (k0_off4_inb i k k0_h1)).toLoadRect X_arg6)⟩] := by
  unfold tripR_k0_t1 tripL_k0_t1 trip_k0_t1
  dsimp only
  sl_unfold_words
  exact ⟨rfl, rfl⟩

/-- One trip's carried value and its one store, over the values its operands read as. -/
theorem trip_eq' (𝒱 : Variants) (c : Dev nD) (bd : Option 𝒱.V) (i : grid0.Coords) (arg2 : Memref sig .tc .vmem S512x12288 .bf16) (harg2 : arg2.IsWhole)
    (arg3 : Memref sig .tc .vmem S6144x512 .i8) (harg3 : arg3.IsWhole) (arg4 : Memref sig .tc .vmem S96x512 .f32) (harg4 : arg4.IsWhole)
    (arg5 : Memref sig .tc .vmem S96x512 .f32) (harg5 : arg5.IsWhole) (arg6 : Memref sig .tc .vmem S2x6144x32 .bf16) (harg6 : arg6.IsWhole)
    (arg7 : Memref sig .tc .vmem S32x512 .bf16) (harg7 : arg7.IsWhole) (arg8 : Memref sig .tc .vmem S1x1x512 .f32) (harg8 : arg8.IsWhole)
    (arg9 : Memref sig .tc .vmem S512x512 .bf16) (harg9 : arg9.IsWhole) (arg10 : Memref sig .tc .vmem S1x1x512 .f32) (harg10 : arg10.IsWhole)
    (arg11 : Memref sig .tc .vmem S12288x512 .bf16) (harg11 : arg11.IsWhole) (arg12 : Memref sig .tc .vmem S1x512 .f32) (harg12 : arg12.IsWhole)
    (k0_h1 : k0_cond1 i = 1#1) (v12 : Vec F S32x512 .bf16) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (k : Fin k0_t1_loop.trips) (a : FVec F S8x512 .f32)
    (x1 : Vec F S6144x512 .i8) (x2 x3 : Vec F S96x512 .f32) (x4 : Vec F S2x6144x32 .bf16)
    (h1 : arg3.view.read (Elt F) X_arg3 = x1) (h2 : arg4.view.read (Elt F) X_arg4 = x2)
    (h3 : arg5.view.read (Elt F) X_arg5 = x3) (h4 : arg6.view.read (Elt F) X_arg6 = x4) :
    tripR_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k a
      = k0_pay3 v12 (k0_pay13 v12 a (codes x1 k.val) (groupRow x2 k.val) (groupRow x3 k.val) (factor x4 0 k.val))
          (k0_pay14 (codes x1 k.val) (groupRow x2 k.val) (groupRow x3 k.val)) (factor x4 1 k.val)
    ∧ tripL_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k a
      = [⟨Rect.unit (s := S12288x512) (k0_off5 k) S128x512.size (k0_off5_inb i k k0_h1), piece x1 x2 x3 x4 v12 k.val⟩] := by
  have h := trip_eq (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k a
  have hk : k.val < 96 := Nat.lt_of_lt_of_le k.isLt k0_t1_abs.2.1
  have e1 : arg3.view.readAt (Elt F) (Rect.unit (s := S6144x512) (k0_off1 k) S64x512.size (k0_off1_inb i k k0_h1)).toLoadRect X_arg3 = codes x1 k.val := by rw [View.readAt_eq_ld, h1]; exact ld_codes x1 k.val hk _ (k0_off1_eq k) _
  have e2 : arg4.view.readAt (Elt F) (Rect.unit (s := S96x512) (k0_off2 k) S1x512.size (k0_off2_inb i k k0_h1)).toLoadRect X_arg4 = groupRow x2 k.val := by rw [View.readAt_eq_ld, h2]; exact ld_groupRow x2 k.val hk _ (k0_off2_eq k) _
  have e3 : arg5.view.readAt (Elt F) (Rect.unit (s := S96x512) (k0_off2 k) S1x512.size (k0_off2_inb i k k0_h1)).toLoadRect X_arg5 = groupRow x3 k.val := by rw [View.readAt_eq_ld, h3]; exact ld_groupRow x3 k.val hk _ (k0_off2_eq k) _
  have e4 : arg6.view.readAt (Elt F) (Rect.unit (s := S2x6144x32) (k0_off3 k) S1x64x32.size (k0_off3_inb i k k0_h1)).toLoadRect X_arg6 = factor x4 0 k.val := by rw [View.readAt_eq_ld, h4]; exact ld_factor x4 0 k.val hk _ (k0_off3_eq k) _
  have e5 : arg6.view.readAt (Elt F) (Rect.unit (s := S2x6144x32) (k0_off4 k) S1x64x32.size (k0_off4_inb i k k0_h1)).toLoadRect X_arg6 = factor x4 1 k.val := by rw [View.readAt_eq_ld, h4]; exact ld_factor x4 1 k.val hk _ (k0_off4_eq k) _
  rw [e1, e2, e3, e4, e5] at h
  exact h

/-- The loop's state before trip `k`: the carried sums are `acc … k`, every store agrees with the merged weight, and the
    stores cover the rows below `128 k`. -/
theorem st_eq (𝒱 : Variants) (c : Dev nD) (bd : Option 𝒱.V) (i : grid0.Coords) (arg2 : Memref sig .tc .vmem S512x12288 .bf16) (harg2 : arg2.IsWhole)
    (arg3 : Memref sig .tc .vmem S6144x512 .i8) (harg3 : arg3.IsWhole) (arg4 : Memref sig .tc .vmem S96x512 .f32) (harg4 : arg4.IsWhole)
    (arg5 : Memref sig .tc .vmem S96x512 .f32) (harg5 : arg5.IsWhole) (arg6 : Memref sig .tc .vmem S2x6144x32 .bf16) (harg6 : arg6.IsWhole)
    (arg7 : Memref sig .tc .vmem S32x512 .bf16) (harg7 : arg7.IsWhole) (arg8 : Memref sig .tc .vmem S1x1x512 .f32) (harg8 : arg8.IsWhole)
    (arg9 : Memref sig .tc .vmem S512x512 .bf16) (harg9 : arg9.IsWhole) (arg10 : Memref sig .tc .vmem S1x1x512 .f32) (harg10 : arg10.IsWhole)
    (arg11 : Memref sig .tc .vmem S12288x512 .bf16) (harg11 : arg11.IsWhole) (arg12 : Memref sig .tc .vmem S1x512 .f32) (harg12 : arg12.IsWhole)
    (k0_h1 : k0_cond1 i = 1#1) (v12 : Vec F S32x512 .bf16) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (x1 : Vec F S6144x512 .i8) (x2 x3 : Vec F S96x512 .f32) (x4 : Vec F S2x6144x32 .bf16)
    (h1 : arg3.view.read (Elt F) X_arg3 = x1) (h2 : arg4.view.read (Elt F) X_arg4 = x2)
    (h3 : arg5.view.read (Elt F) X_arg5 = x3) (h4 : arg6.view.read (Elt F) X_arg6 = x4) (k : ℕ) (hk : k ≤ k0_t1_loop.trips) :
    (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k).1 = acc x1 x2 x3 x4 v12 k
    ∧ (∀ p ∈ (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k).2,
        ∀ x : p.1.shape.Idx, p.2 x = weight x1 x2 x3 x4 v12 (p.1.emb x))
    ∧ (∀ y : S12288x512.Idx, (y 0).val < 128 * k → ∃ p ∈ (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k).2,
        y ∈ p.1.set) := by
  induction k with
  | zero => exact ⟨rfl, fun p hp => absurd hp List.not_mem_nil, fun y hy => absurd hy (by omega)⟩
  | succ k ih =>
    obtain ⟨i1, i2, i3⟩ := ih (by omega)
    have hs := st_k0_t1_succ (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 ⟨k, hk⟩
    obtain ⟨hR, hL⟩ := trip_eq' (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 ⟨k, hk⟩
      (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k).1 x1 x2 x3 x4 h1 h2 h3 h4
    rw [hs]
    dsimp only
    rw [hR, hL, i1]
    have hk' : k < 96 := Nat.lt_of_lt_of_le hk k0_t1_abs.2.1
    refine ⟨rfl, fun p hp => ?_, fun y hy => ?_⟩
    · rcases List.mem_append.mp hp with hp | hp
      · obtain rfl := List.mem_singleton.mp hp
        intro x
        have hx0 : (x 0).val < 128 := (x 0).isLt
        have he0 : ((Rect.unit (s := S12288x512) (k0_off5 ⟨k, hk⟩) S128x512.size (k0_off5_inb i ⟨k, hk⟩ k0_h1)).emb x 0).val
            = 128 * k + (x 0).val := by
          have ho : k0_off5 ⟨k, hk⟩ 0 = 128 * k := by rw [k0_off5_eq]; rfl
          exact (congrArg (· + 1 * (x 0).val) ho).trans (congrArg (128 * k + ·) (Nat.one_mul _))
        have he1 : ((Rect.unit (s := S12288x512) (k0_off5 ⟨k, hk⟩) S128x512.size (k0_off5_inb i ⟨k, hk⟩ k0_h1)).emb x 1).val
            = (x 1).val := by
          have ho : k0_off5 ⟨k, hk⟩ 1 = 0 := by rw [k0_off5_eq]; rfl
          exact (congrArg (· + 1 * (x 1).val) ho).trans ((Nat.zero_add _).trans (Nat.one_mul _))
        exact (weight_apply x1 x2 x3 x4 v12 _ k (x 0) (x 1) he0 he1).symm ▸
          congrArg (piece x1 x2 x3 x4 v12 k) (eq_ix2 (n0 := 128) (n1 := 512) x)
      · exact i2 p hp
    · rcases Nat.lt_or_ge (y 0).val (128 * k) with h | h
      · obtain ⟨p, hp, hy'⟩ := i3 y h
        exact ⟨p, List.mem_append_right _ hp, hy'⟩
      · have ho0 : k0_off5 ⟨k, hk⟩ 0 = 128 * k := by rw [k0_off5_eq]; rfl
        have ho1 : k0_off5 ⟨k, hk⟩ 1 = 0 := by rw [k0_off5_eq]; rfl
        have hy1 : (y 1).val < 512 := (y 1).isLt
        refine ⟨⟨Rect.unit (s := S12288x512) (k0_off5 ⟨k, hk⟩) S128x512.size (k0_off5_inb i ⟨k, hk⟩ k0_h1), piece x1 x2 x3 x4 v12 k⟩,
          List.mem_append_left _ (List.mem_singleton.mpr rfl), ?_⟩
        refine (Rect.mem_set_unit (inb := k0_off5_inb i ⟨k, hk⟩ k0_h1)).mpr fun a => ?_
        match a with
        | ⟨0, _⟩ => exact ⟨ho0.le.trans h, Nat.lt_of_lt_of_eq (by omega : (y 0).val < 128 * k + 128) (congrArg (· + 128) ho0.symm)⟩
        | ⟨1, _⟩ => exact ⟨ho1.le.trans (Nat.zero_le _), Nat.lt_of_lt_of_eq (by omega : (y 1).val < 0 + 512) (congrArg (· + 512) ho1.symm)⟩

/-- After the loop the carried sums are `acc … 96`. -/
theorem st_acc (𝒱 : Variants) (c : Dev nD) (bd : Option 𝒱.V) (i : grid0.Coords) (arg2 : Memref sig .tc .vmem S512x12288 .bf16) (harg2 : arg2.IsWhole)
    (arg3 : Memref sig .tc .vmem S6144x512 .i8) (harg3 : arg3.IsWhole) (arg4 : Memref sig .tc .vmem S96x512 .f32) (harg4 : arg4.IsWhole)
    (arg5 : Memref sig .tc .vmem S96x512 .f32) (harg5 : arg5.IsWhole) (arg6 : Memref sig .tc .vmem S2x6144x32 .bf16) (harg6 : arg6.IsWhole)
    (arg7 : Memref sig .tc .vmem S32x512 .bf16) (harg7 : arg7.IsWhole) (arg8 : Memref sig .tc .vmem S1x1x512 .f32) (harg8 : arg8.IsWhole)
    (arg9 : Memref sig .tc .vmem S512x512 .bf16) (harg9 : arg9.IsWhole) (arg10 : Memref sig .tc .vmem S1x1x512 .f32) (harg10 : arg10.IsWhole)
    (arg11 : Memref sig .tc .vmem S12288x512 .bf16) (harg11 : arg11.IsWhole) (arg12 : Memref sig .tc .vmem S1x512 .f32) (harg12 : arg12.IsWhole)
    (k0_h1 : k0_cond1 i = 1#1) (v12 : Vec F S32x512 .bf16) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (x1 : Vec F S6144x512 .i8) (x2 x3 : Vec F S96x512 .f32) (x4 : Vec F S2x6144x32 .bf16)
    (h1 : arg3.view.read (Elt F) X_arg3 = x1) (h2 : arg4.view.read (Elt F) X_arg4 = x2)
    (h3 : arg5.view.read (Elt F) X_arg5 = x3) (h4 : arg6.view.read (Elt F) X_arg6 = x4) :
    (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k0_t1_loop.trips).1 = acc x1 x2 x3 x4 v12 96 := by
  have ht : k0_t1_loop.trips = 96 := by decide +kernel
  have h := (st_eq (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 x1 x2 x3 x4 h1 h2 h3 h4 k0_t1_loop.trips le_rfl).1
  rw [h, ht]

/-- After the loop the scratch reads the merged weight, whatever it held before. -/
theorem st_weight (𝒱 : Variants) (c : Dev nD) (bd : Option 𝒱.V) (i : grid0.Coords) (arg2 : Memref sig .tc .vmem S512x12288 .bf16) (harg2 : arg2.IsWhole)
    (arg3 : Memref sig .tc .vmem S6144x512 .i8) (harg3 : arg3.IsWhole) (arg4 : Memref sig .tc .vmem S96x512 .f32) (harg4 : arg4.IsWhole)
    (arg5 : Memref sig .tc .vmem S96x512 .f32) (harg5 : arg5.IsWhole) (arg6 : Memref sig .tc .vmem S2x6144x32 .bf16) (harg6 : arg6.IsWhole)
    (arg7 : Memref sig .tc .vmem S32x512 .bf16) (harg7 : arg7.IsWhole) (arg8 : Memref sig .tc .vmem S1x1x512 .f32) (harg8 : arg8.IsWhole)
    (arg9 : Memref sig .tc .vmem S512x512 .bf16) (harg9 : arg9.IsWhole) (arg10 : Memref sig .tc .vmem S1x1x512 .f32) (harg10 : arg10.IsWhole)
    (arg11 : Memref sig .tc .vmem S12288x512 .bf16) (harg11 : arg11.IsWhole) (arg12 : Memref sig .tc .vmem S1x512 .f32) (harg12 : arg12.IsWhole)
    (k0_h1 : k0_cond1 i = 1#1) (v12 : Vec F S32x512 .bf16) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (x1 : Vec F S6144x512 .i8) (x2 x3 : Vec F S96x512 .f32) (x4 : Vec F S2x6144x32 .bf16)
    (h1 : arg3.view.read (Elt F) X_arg3 = x1) (h2 : arg4.view.read (Elt F) X_arg4 = x2)
    (h3 : arg5.view.read (Elt F) X_arg5 = x3) (h4 : arg6.view.read (Elt F) X_arg6 = x4)
    (f : BufTy.Contents (Elt F) arg11.view.ty) :
    arg11.view.read (Elt F) (arg11.view.writes (Elt F) f (st_k0_t1 (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 k0_pay1 k0_t1_loop.trips).2)
      = weight x1 x2 x3 x4 v12 := by
  have ht : k0_t1_loop.trips = 96 := by decide +kernel
  obtain ⟨-, i2, i3⟩ := st_eq (F := F) 𝒱 c bd i arg2 harg2 arg3 harg3 arg4 harg4 arg5 harg5 arg6 harg6 arg7 harg7 arg8 harg8 arg9 harg9 arg10 harg10 arg11 harg11 arg12 harg12 k0_h1 v12 X_arg3 X_arg4 X_arg5 X_arg6 x1 x2 x3 x4 h1 h2 h3 h4 k0_t1_loop.trips le_rfl
  funext y
  have hy : (y 0).val < 12288 := (y 0).isLt
  exact View.read_writes_apply_of_pieces _ _ (weight x1 x2 x3 x4 v12) _ i2 y (i3 y (by rw [ht]; omega))

end Cert.KernelIdeal.Tile

end
-- ==== Proof.IdealBuild.lean ====
/-
  THE BODY AT THE FIRST POINT OF A COLUMN TILE: it builds the merged weight, the norm row and the rescale row from the
  tile's blocks, then multiplies.
-/
module

public import proofs.«01_k».proof.Proof.IdealPoints
public import proofs.«01_k».proof.Proof.WholeStore
public import proofs.«01_k».proof.Proof.LoopValue

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's triple where it builds: from the blocks `x0 … x6`, and anything in the outputs and the scratch, it ends with
    the output tile, the norm row, the merged weight and the rescale row at their values. -/
theorem run_build (c : Dev nD) (i : grid0.Coords) (arg2 : Memref sig .tc .vmem S512x12288 .bf16) (harg2 : arg2.IsWhole) (arg3 : Memref sig .tc .vmem S6144x512 .i8) (harg3 : arg3.IsWhole) (arg4 : Memref sig .tc .vmem S96x512 .f32) (harg4 : arg4.IsWhole) (arg5 : Memref sig .tc .vmem S96x512 .f32) (harg5 : arg5.IsWhole) (arg6 : Memref sig .tc .vmem S2x6144x32 .bf16) (harg6 : arg6.IsWhole) (arg7 : Memref sig .tc .vmem S32x512 .bf16) (harg7 : arg7.IsWhole) (arg8 : Memref sig .tc .vmem S1x1x512 .f32) (harg8 : arg8.IsWhole) (arg9 : Memref sig .tc .vmem S512x512 .bf16) (harg9 : arg9.IsWhole) (arg10 : Memref sig .tc .vmem S1x1x512 .f32) (harg10 : arg10.IsWhole) (arg11 : Memref sig .tc .vmem S12288x512 .bf16) (harg11 : arg11.IsWhole) (arg12 : Memref sig .tc .vmem S1x512 .f32) (harg12 : arg12.IsWhole) (hc0 : cond0_0 i)
    (x0 : Vec F S512x12288 .bf16) (x1 : Vec F S6144x512 .i8) (x2 : Vec F S96x512 .f32) (x3 : Vec F S96x512 .f32)
    (x4 : Vec F S2x6144x32 .bf16) (x5 : Vec F S32x512 .bf16) (x6 : Vec F S1x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 (weight x1 x2 x3 x4 x5) (scale x1 x2 x3 x4 x5 x6)) ∗ owns (c : Thread nD τ) arg10 fullShare (norm x1 x2 x3 x4 x5) ∗ owns (c : Thread nD τ) arg11 fullShare (weight x1 x2 x3 x4 x5) ∗ owns (c : Thread nD τ) arg12 fullShare (scale x1 x2 x3 x4 x5 x6)) -∗ K ⟨⟩))
          ⊢ wp frame (wpE (defs₀ (F := F)) Variants.none c none) E (cc0_dora_awq i arg2 harg2 arg3 harg3 arg4 harg4 arg5 harg5 arg6 harg6 arg7 harg7 arg8 harg8 arg9 harg9 arg10 harg10 arg11 harg11 arg12 harg12) K := by
    intro E K
    simp only [cc0_dora_awq_eq_skeleton]; unfold cc0_dora_awq_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; have hv := (load_whole arg7.view (harg7.unread x5) zero2 inb_S32x512_S32x512_0_0).trans (harg7.read_unread x5)
      have hacc := st_acc (F := F) Variants.none c none i arg2 harg2 arg3 harg3 arg4 harg4 arg5 harg5 arg6 harg6 arg7 harg7 arg8 harg8 arg9 harg9 arg10 harg10 arg11 harg11 arg12 harg12 hc0
        x5 (harg3.unread x1) (harg4.unread x2) (harg5.unread x3) (harg6.unread x4) x1 x2 x3 x4
        (harg3.read_unread x1) (harg4.read_unread x2) (harg5.read_unread x3) (harg6.read_unread x4)
      have hw := st_weight (F := F) Variants.none c none i arg2 harg2 arg3 harg3 arg4 harg4 arg5 harg5 arg6 harg6 arg7 harg7 arg8 harg8 arg9 harg9 arg10 harg10 arg11 harg11 arg12 harg12 hc0
        x5 (harg3.unread x1) (harg4.unread x2) (harg5.unread x3) (harg6.unread x4) x1 x2 x3 x4
        (harg3.read_unread x1) (harg4.read_unread x2) (harg5.read_unread x3) (harg6.read_unread x4)
      refine (read_store_whole _ _ zero2 _ _ _).trans ?_
      unfold run_build.sl.v5 run_build.sl.v7 run_build.sl.HS1_1
      rw [View.readCov_unit_zero _ zero2, load_whole arg11.view _ zero2, load_whole arg2.view _ zero2,
        load_whole arg8.view _ zero3, harg8.read_unread, harg2.read_unread, hv]
      exact congrArg₂ (k0_pay8 x0) (hw fs0) (congrArg (fun q => k0_pay7 q x6) hacc)
    isplitl [H8]
    · iexists _; isplitr; swap; · iexact H8
      ipureintro; have hv := (load_whole arg7.view (harg7.unread x5) zero2 inb_S32x512_S32x512_0_0).trans (harg7.read_unread x5)
      have hacc := st_acc (F := F) Variants.none c none i arg2 harg2 arg3 harg3 arg4 harg4 arg5 harg5 arg6 harg6 arg7 harg7 arg8 harg8 arg9 harg9 arg10 harg10 arg11 harg11 arg12 harg12 hc0
        x5 (harg3.unread x1) (harg4.unread x2) (harg5.unread x3) (harg6.unread x4) x1 x2 x3 x4
        (harg3.read_unread x1) (harg4.read_unread x2) (harg5.read_unread x3) (harg6.read_unread x4)
      refine (read_store_whole _ _ zero3 _ _ _).trans ?_
      rw [hv]
      exact congrArg k0_pay6 hacc
    isplitl [HS0]
    · iexists _; isplitr; swap; · iexact HS0
      ipureintro; have hv := (load_whole arg7.view (harg7.unread x5) zero2 inb_S32x512_S32x512_0_0).trans (harg7.read_unread x5)
      have hw := st_weight (F := F) Variants.none c none i arg2 harg2 arg3 harg3 arg4 harg4 arg5 harg5 arg6 harg6 arg7 harg7 arg8 harg8 arg9 harg9 arg10 harg10 arg11 harg11 arg12 harg12 hc0
        x5 (harg3.unread x1) (harg4.unread x2) (harg5.unread x3) (harg6.unread x4) x1 x2 x3 x4
        (harg3.read_unread x1) (harg4.read_unread x2) (harg5.read_unread x3) (harg6.read_unread x4)
      rw [hv]
      exact hw fs0
    iexists _; isplitr; swap; · iexact HS1
    ipureintro; have hv := (load_whole arg7.view (harg7.unread x5) zero2 inb_S32x512_S32x512_0_0).trans (harg7.read_unread x5)
    have hacc := st_acc (F := F) Variants.none c none i arg2 harg2 arg3 harg3 arg4 harg4 arg5 harg5 arg6 harg6 arg7 harg7 arg8 harg8 arg9 harg9 arg10 harg10 arg11 harg11 arg12 harg12 hc0
      x5 (harg3.unread x1) (harg4.unread x2) (harg5.unread x3) (harg6.unread x4) x1 x2 x3 x4
      (harg3.read_unread x1) (harg4.read_unread x2) (harg5.read_unread x3) (harg6.read_unread x4)
    unfold run_build.sl.HS1_1
    refine (read_store_whole _ _ zero2 _ _ _).trans ?_
    rw [hv, load_whole arg8.view _ zero3, harg8.read_unread]
    exact congrArg (fun q => k0_pay7 q x6) hacc

end Cert.KernelIdeal.Tile

end
-- ==== Proof.IdealMultiply.lean ====
/-
  THE BODY AT THE OTHER POINTS OF A COLUMN TILE: it multiplies by the merged weight and the rescale row it finds in the
  scratch, and leaves the norm row's buffer as it was.
-/
module

public import proofs.«01_k».proof.Proof.IdealPoints
public import proofs.«01_k».proof.Proof.WholeStore
public import proofs.«01_k».proof.Proof.BlockValue
public import Idealize.ShloMosaic.Lib.Pipeline.Value
public import Idealize.ShloMosaic.Lib.Pipeline.ValueKit.Tiles

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's triple where it only multiplies: the scratch at `w` and `s`, the norm row's buffer at `n`, all kept; the
    output tile at its value. -/
theorem run_multiply (c : Dev nD) (i : grid0.Coords) (arg2 : Memref sig .tc .vmem S512x12288 .bf16) (harg2 : arg2.IsWhole) (arg3 : Memref sig .tc .vmem S6144x512 .i8) (harg3 : arg3.IsWhole) (arg4 : Memref sig .tc .vmem S96x512 .f32) (harg4 : arg4.IsWhole) (arg5 : Memref sig .tc .vmem S96x512 .f32) (harg5 : arg5.IsWhole) (arg6 : Memref sig .tc .vmem S2x6144x32 .bf16) (harg6 : arg6.IsWhole) (arg7 : Memref sig .tc .vmem S32x512 .bf16) (harg7 : arg7.IsWhole) (arg8 : Memref sig .tc .vmem S1x1x512 .f32) (harg8 : arg8.IsWhole) (arg9 : Memref sig .tc .vmem S512x512 .bf16) (harg9 : arg9.IsWhole) (arg10 : Memref sig .tc .vmem S1x1x512 .f32) (harg10 : arg10.IsWhole) (arg11 : Memref sig .tc .vmem S12288x512 .bf16) (harg11 : arg11.IsWhole) (arg12 : Memref sig .tc .vmem S1x512 .f32) (harg12 : arg12.IsWhole) (hc0 : ¬cond0_0 i)
    (x0 : Vec F S512x12288 .bf16) (x1 : Vec F S6144x512 .i8) (x2 : Vec F S96x512 .f32) (x3 : Vec F S96x512 .f32)
    (x4 : Vec F S2x6144x32 .bf16) (x5 : Vec F S32x512 .bf16) (x6 : Vec F S1x1x512 .f32)
    (n : Vec F S1x1x512 .f32) (w : Vec F S12288x512 .bf16) (s : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare n ∗ owns (c : Thread nD τ) arg11 fullShare w ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 w s) ∗ owns (c : Thread nD τ) arg10 fullShare n ∗ owns (c : Thread nD τ) arg11 fullShare w ∗ owns (c : Thread nD τ) arg12 fullShare s) -∗ K ⟨⟩))
          ⊢ wp frame (wpE (defs₀ (F := F)) Variants.none c none) E (cc0_dora_awq i arg2 harg2 arg3 harg3 arg4 harg4 arg5 harg5 arg6 harg6 arg7 harg7 arg8 harg8 arg9 harg9 arg10 harg10 arg11 harg11 arg12 harg12) K := by
    intro E K
    simp only [cc0_dora_awq_eq_skeleton]; unfold cc0_dora_awq_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hf8; obtain rfl := harg11.eq_unread hfs0; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; refine (read_store_whole _ _ zero2 _ _ _).trans ?_
      rw [load_whole arg2.view _ zero2, load_whole arg11.view _ zero2, load_whole arg12.view _ zero2,
        harg2.read_unread, harg11.read_unread, harg12.read_unread]
    isplitl [H8]
    · iexists _; isplitr; · ipureintro; exact harg10.read_unread _
      iexact H8
    isplitl [HS0]
    · iexists _; isplitr; · ipureintro; exact harg11.read_unread _
      iexact HS0
    iexists _; isplitr; · ipureintro; exact harg12.read_unread _
    iexact HS1

end Cert.KernelIdeal.Tile

end
-- ==== Proof.IdealFrame.lean ====
/-
  THE LAUNCH: what each buffer holds before and after the body at every grid point, and the run of the whole program.

  The grid walks the 56 column tiles, and inside each the 12 row tiles: point t is column t / 12, row t % 12. At row 0 the
  body builds the column's merged weight and rescale row in the scratch and writes the norm row; at the other rows it only
  multiplies. So the scratch is known inside a column (between row 0 and row 11) and nothing is asked of it between
  columns.
-/
module

public import proofs.«01_k».proof.Proof.IdealBuild
public import proofs.«01_k».proof.Proof.IdealMultiply
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a column's scratch and norm row are -/

/-- The first grid point of column `j`. -/
def first (j : ℕ) : Fin cfg0.N := ⟨12 * j % 672, lt_of_lt_of_eq (Nat.mod_lt _ (by omega)) N_0.symm⟩

/-- The merged weight of column tile `j`. -/
def colWeight (c : Dev nD) (j : ℕ) : Vec F S12288x512 .bf16 :=
  weight (iblk m c 1 (first j)) (iblk m c 2 (first j)) (iblk m c 3 (first j)) (iblk m c 4 (first j)) (iblk m c 5 (first j))
/-- The norm row of column tile `j`. -/
def colNorm (c : Dev nD) (j : ℕ) : Vec F S1x1x512 .f32 :=
  norm (iblk m c 1 (first j)) (iblk m c 2 (first j)) (iblk m c 3 (first j)) (iblk m c 4 (first j)) (iblk m c 5 (first j))
/-- The rescale row of column tile `j`. -/
def colScale (c : Dev nD) (j : ℕ) : Vec F S1x512 .f32 :=
  scale (iblk m c 1 (first j)) (iblk m c 2 (first j)) (iblk m c 3 (first j)) (iblk m c 4 (first j)) (iblk m c 5 (first j))
    (iblk m c 6 (first j))
/-- The output tile at point `t`. -/
def outTile (c : Dev nD) (t : Fin cfg0.N) : Vec F S512x512 .bf16 :=
  k0_pay8 (iblk m c 0 t) (colWeight m c (t.val / 12)) (colScale m c (t.val / 12))

/-- At row 0 the point is its column's first. -/
theorem first_of_row0 (t : Fin cfg0.N) (h : t.val % 12 = 0) : first (t.val / 12) = t := by
  have hN : t.val < 672 := lt_of_lt_of_eq t.isLt N_0
  refine Fin.ext ?_
  show 12 * (t.val / 12) % 672 = t.val
  omega

/-- The scratch and the generator register inside column `j`. -/
def held (c : Dev nD) (j : ℕ) : sProp 𝕄 :=
  iprop(iprop(owns (c : Thread nD τ) scM0_0 fullShare (colWeight m c j) ∗ owns (c : Thread nD τ) scM0_1 fullShare (colScale m c j)) ∗ (∃ r, prngReg c r))

/-- Known contents are some contents. -/
theorem held_loose (c : Dev nD) (j : ℕ) : held m c j ⊢ (Pipeline.ΦA spec0 c : sProp 𝕄) := by
  rw [PhiA0_eq]; unfold held
  iintro ⟨⟨H0, H1⟩, Hg⟩
  isplitl [H0 H1]
  · isplitl [H0]
    · iexists _; iexact H0
    iexists _; iexact H1
  iexact Hg

/-! ## The pipeline's proof data -/

/-- The invariant at the start of position `s`: between columns nothing is known of the scratch; inside one it is held. -/
def inv (c : Dev nD) (s : ℕ) : sProp 𝕄 := if s % 12 = 0 then Pipeline.ΦA spec0 c else held m c (s / 12)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile m c t
    | ⟨8, _⟩ => colNorm m c (t.val / 12)
  Φ s := inv m c s.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = outTile m c t := by dsimp only [dats]
/-- What the body leaves in window 8. -/
theorem after0_8 (c : Dev nD) (t : Fin cfg0.N) : (dats m 0 c).after 8 t = colNorm m c (t.val / 12) := by dsimp only [dats]
/-- Input window 0 holds its block at every point. -/
theorem before0_0 (c : Dev nD) (t : Fin cfg0.N) (d) : (dats m 0 c).before 0 t d = iblk m c 0 t :=
  before0_0_of m (dats m 0 c) (A_eq m c 0) (after0_0 m c) t d
/-- Input window 1 holds its block at every point. -/
theorem before0_1 (c : Dev nD) (t : Fin cfg0.N) (d) : (dats m 0 c).before 1 t d = iblk m c 1 t :=
  before0_1_of m (dats m 0 c) (A_eq m c 1) (after0_1 m c) t d
/-- Input window 2 holds its block at every point. -/
theorem before0_2 (c : Dev nD) (t : Fin cfg0.N) (d) : (dats m 0 c).before 2 t d = iblk m c 2 t :=
  before0_2_of m (dats m 0 c) (A_eq m c 2) (after0_2 m c) t d
/-- Input window 3 holds its block at every point. -/
theorem before0_3 (c : Dev nD) (t : Fin cfg0.N) (d) : (dats m 0 c).before 3 t d = iblk m c 3 t :=
  before0_3_of m (dats m 0 c) (A_eq m c 3) (after0_3 m c) t d
/-- Input window 4 holds its block at every point. -/
theorem before0_4 (c : Dev nD) (t : Fin cfg0.N) (d) : (dats m 0 c).before 4 t d = iblk m c 4 t :=
  before0_4_of m (dats m 0 c) (A_eq m c 4) (after0_4 m c) t d
/-- Input window 5 holds its block at every point. -/
theorem before0_5 (c : Dev nD) (t : Fin cfg0.N) (d) : (dats m 0 c).before 5 t d = iblk m c 5 t :=
  before0_5_of m (dats m 0 c) (A_eq m c 5) (after0_5 m c) t d
/-- Input window 6 holds its block at every point. -/
theorem before0_6 (c : Dev nD) (t : Fin cfg0.N) (d) : (dats m 0 c).before 6 t d = iblk m c 6 t :=
  before0_6_of m (dats m 0 c) (A_eq m c 6) (after0_6 m c) t d

/-! ## The norm row's buffer, which only row 0 writes -/

/-- The body stores nothing into the norm row's window but at row 0. -/
theorem idle0_8 (t : Fin cfg0.N) : cfg0.idle 8 (grid0.coords t) = !decide (t.val % 12 = 0) := by
  have h := hcond0_0 t
  show (!(k0_cond1 (grid0.coords t) == 1#1)) = _
  congr 1
  rw [Bool.eq_iff_iff, beq_iff_eq, decide_eq_true_iff]
  exact h
/-- Its output window is never idle. -/
theorem liveAt0_7 : ∀ t : Fin cfg0.N, cfg0.idle 7 (grid0.coords t) = false := fun _ => rfl
/-- It holds nothing stored exactly at row 0. -/
theorem fresh0_8 (n : ℕ) (h : n ≤ cfg0.N) : cfg0.fresh 8 n = decide (n % 12 = 0) := by
  refine cfg0.fresh_tab 8 (fun n => decide (n % 12 = 0)) rfl (fun t => ?_) n h
  rw [show cfg0.grid.coords t = grid0.coords t from rfl, idle0_8 t]
  rw [Bool.eq_iff_iff, Bool.or_eq_true, flush0_8 t]
  simp only [decide_eq_true_iff, Bool.and_eq_true, Bool.not_eq_true', decide_eq_false_iff_not]
  omega
/-- Away from row 0 it holds the column's norm row. -/
theorem before0_8 (c : Dev nD) (t : Fin cfg0.N) (h : t.val % 12 ≠ 0) (d) :
    (dats m 0 c).before 8 t d = colNorm m c (t.val / 12) := by
  rw [(dats m 0 c).before_out_traj 8 rfl (fun _ _ => rfl) (fun t ht hi _ => ?_) t.val t rfl d]
  · rw [fresh0_8 t.val t.isLt.le, if_neg (by simpa using h), after0_8]
    congr 1
    show (t.val - 1) / 12 = t.val / 12
    omega
  · rw [show cfg0.grid.coords t = grid0.coords t from rfl, idle0_8 t] at hi
    have h' : t.val % 12 ≠ 0 := by simpa using hi
    rw [after0_8, after0_8]
    congr 1
    show t.val / 12 = (t.val - 1) / 12
    omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at a row-0 point. -/
theorem sound_build (c : Dev nD) (t : Fin cfg0.N) (h0 : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.castSucc = Pipeline.ΦA spec0 c from if_pos h0, PhiA0_eq,
    show (dats m 0 c).Φ t.succ = held m c (t.val / 12) from
      (if_neg (show ¬ (t.val + 1) % 12 = 0 by omega)).trans (congrArg (held m c) (show (t.val + 1) / 12 = t.val / 12 by omega))]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [show cfg0.idle 8 (cfg0.grid.coords t) = false from (idle0_8 t).trans (by simp [h0])], after0_8]
  unfold held outTile colWeight colScale colNorm
  rw [first_of_row0 t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_build c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Away from row 0, a buffer at the column's norm row is what the norm row's window leaves. -/
theorem leaves0_8 (c : Dev nD) (t : Fin cfg0.N) (h0 : t.val % 12 ≠ 0) :
    owns (c : Thread nD τ) (ms0_8 t) fullShare (colNorm m c (t.val / 12)) ⊢ ((dats m 0 c).leavesExact 8 t : sProp 𝕄) := by
  have hi : cfg0.idle 8 (cfg0.grid.coords t) = true := (idle0_8 t).trans (by simp [h0])
  by_cases h11 : t.val % 12 = 11
  · rw [show (dats m 0 c).leavesExact 8 t = owns (c : Thread nD τ) (ms0_8 t) fullShare ((dats m 0 c).after 8 t) from by
      unfold Dat.leavesExact; rw [hi, (flush0_8 t).mpr h11], after0_8]
  · have hf : (cfg0.win 8).flush t = false := by
      rw [← Bool.not_eq_true]; exact fun h => h11 ((flush0_8 t).mp h)
    rw [(dats m 0 c).leavesExact_idle 8 t hi hf]
    simp only [before0_8 m c t h0]
    iintro H
    iexists (fun _ => Classical.arbitrary _)
    iexact H

/-- The invariant after a point away from row 0: still held, or let go at the column's end. -/
theorem inv_succ (c : Dev nD) (t : Fin cfg0.N) (h0 : t.val % 12 ≠ 0) :
    held m c (t.val / 12) ⊢ ((dats m 0 c).Φ t.succ : sProp 𝕄) := by
  by_cases h : (t.val + 1) % 12 = 0
  · rw [show (dats m 0 c).Φ t.succ = Pipeline.ΦA spec0 c from if_pos h]
    exact held_loose m c _
  · rw [show (dats m 0 c).Φ t.succ = held m c (t.val / 12) from
      (if_neg h).trans (congrArg (held m c) (show (t.val + 1) / 12 = t.val / 12 by omega))]

set_option maxHeartbeats 1600000 in
/-- The body away from row 0. -/
theorem sound_multiply (c : Dev nD) (t : Fin cfg0.N) (h0 : t.val % 12 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_8 m c t h0]
  rw [show (dats m 0 c).owesAt () t.succ = (dats m 0 c).owesAt () t.castSucc from rfl]
  rw [show (dats m 0 c).Φ t.castSucc = held m c (t.val / 12) from if_neg h0]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  unfold held outTile
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_multiply c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)
    (colNorm m c (t.val / 12)) (colWeight m c (t.val / 12)) (colScale m c (t.val / 12)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iapply (inv_succ m c t h0); unfold held
    isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves0_8 m c t h0); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_build m c t h0
  · exact sound_multiply m c t h0

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The grid ends at a column's end. -/
theorem inv_last (c : Dev nD) : (dats m 0 c).Φ (Fin.last cfg0.N) = (Pipeline.ΦA spec0 c : sProp 𝕄) := by
  show inv m c cfg0.N = _
  unfold inv
  exact if_pos (by rw [show cfg0.N = 672 from N_0])

set_option backward.isDefEq.respectTransparency.types false in
set_option maxHeartbeats 800000 in
/-- THE LAUNCH: every weakly fair execution terminates with the arrays at the proof data's contents, every other buffer at
    what the host lines after the region leave, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Entails.of_eq (show (Pipeline.ΦA spec0 c : sProp 𝕄) = (dats m 0 c).Φ 0 from rfl))
    (hout := fun c => Entails.of_eq (inv_last m c))

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: the run ends with the argument arrays unchanged and every semaphore counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Tile

end
-- ==== Proof.Spec.lean ====
/-
  The mathematics both programs compute, over the extended reals: a packed weight unpacked and corrected by a low-rank
  product, the Euclidean length of each of its columns, and the input times the weight with each column rescaled.
-/
module

public import Idealize.ShloMosaic.Lib.Pointwise

@[expose] public section

noncomputable section

namespace Spec

open Idealize.ShloMosaic

/-- What the two programs are given, as functions of the coordinates: the input, the packed codes (two four-bit numbers
    a byte), the scale and the zero point of each group of 64 code rows, the two low-rank factors, and the wanted length
    of each column. -/
@[ext] structure Args where
  x : Fin 2 → Fin 3072 → Fin 12288 → EReal
  codes : Fin 6144 → Fin 28672 → BitVec 8
  scales : Fin 96 → Fin 28672 → EReal
  zeros : Fin 96 → Fin 28672 → EReal
  a : Fin 12288 → Fin 32 → EReal
  b : Fin 32 → Fin 28672 → EReal
  mag : Fin 28672 → EReal

/-- The low four bits of a code byte, as a number. -/
def lowNibble (w : BitVec 8) : EReal :=
  FloatOps.sitofp (F := Ideal) FTy.f32 (IntOp.andi (BitVec.setWidth 32 w) 15#32)

/-- The high four bits of a code byte, as a number. -/
def highNibble (w : BitVec 8) : EReal :=
  FloatOps.sitofp (F := Ideal) FTy.f32 (IntOp.andi (IntOp.shrsi ArithUnit.vector (BitVec.setWidth 32 w) 4#32) 15#32)

/-- The scaling of the low-rank product: the number 2. -/
def two : EReal := Ideal.ofBits FTy.f32 1073741824#32

/-- The group of 64 code rows that code row `k` lies in. -/
abbrev group (k : Fin 6144) : Fin 96 := ⟨k.val / 64, by omega⟩

/-- The weight row held by the low bits of code row `k`. -/
abbrev even (k : Fin 6144) : Fin 12288 := ⟨2 * k.val, by omega⟩

/-- The weight row held by the high bits of code row `k`. -/
abbrev odd (k : Fin 6144) : Fin 12288 := ⟨2 * k.val + 1, by omega⟩

variable (p : Args)

/-- Entry `(2 k, n)` of the corrected weight. -/
def low (k : Fin 6144) (n : Fin 28672) : EReal :=
  (lowNibble (p.codes k n) - p.zeros (group k) n) * p.scales (group k) n + two * ∑ l, p.a (even k) l * p.b l n

/-- Entry `(2 k + 1, n)` of the corrected weight. -/
def high (k : Fin 6144) (n : Fin 28672) : EReal :=
  (highNibble (p.codes k n) - p.zeros (group k) n) * p.scales (group k) n + two * ∑ l, p.a (odd k) l * p.b l n

/-- The length of column `n` of the corrected weight. -/
def norm (n : Fin 28672) : EReal :=
  Ideal.sqrt ((∑ k, low p k n * low p k n) + ∑ k, high p k n * high p k n)

/-- Entry `(b, s, n)` of the output: the input row times column `n` of the weight, times the wanted length of that column
    over its length. -/
def out (b : Fin 2) (s : Fin 3072) (n : Fin 28672) : EReal :=
  ((∑ k, p.x b s (even k) * low p k n) + ∑ k, p.x b s (odd k) * high p k n) * Ideal.div (p.mag n) (norm p n)

end Spec

end
-- ==== Proof.TileRead.lean ====
/-
  What one column tile computes, entry by entry, over the extended reals: the merged weight's even and odd rows, the
  column lengths and the rescale row, and the output of one block.
-/
module

public import proofs.«01_k».proof.Proof.BlockValue
public import proofs.«01_k».proof.Proof.Spec

@[expose] public section

noncomputable section

namespace Cert.KernelIdeal.Tile

open Idealize.ShloMosaic
open Cert.KernelIdeal.Gen

variable (x1 : Vec Ideal S6144x512 .i8) (x2 x3 : Vec Ideal S96x512 .f32) (x4 : Vec Ideal S2x6144x32 .bf16)
  (x5 : Vec Ideal S32x512 .bf16) (x6 : Vec Ideal S1x1x512 .f32)

/-- The entry of the tile's merged weight that the low bits of code row `k` give. -/
def low (k : Fin 6144) (c : Fin 512) : EReal :=
  (Spec.lowNibble (x1 (ix2 k c)) - x3 (ix2 (Spec.group k) c)) * x2 (ix2 (Spec.group k) c)
    + Spec.two * ∑ l, x4 (ix3 0 k l) * x5 (ix2 l c)

/-- The entry of the tile's merged weight that the high bits of code row `k` give. -/
def high (k : Fin 6144) (c : Fin 512) : EReal :=
  (Spec.highNibble (x1 (ix2 k c)) - x3 (ix2 (Spec.group k) c)) * x2 (ix2 (Spec.group k) c)
    + Spec.two * ∑ l, x4 (ix3 1 k l) * x5 (ix2 l c)

/-! ## One group of 64 code rows -/

/-- The even rows of a group, before the group is named. -/
theorem evenRows_apply (w : Vec Ideal S64x512 .i8) (s z : Vec Ideal S1x512 .f32) (a : Vec Ideal S1x64x32 .bf16)
    (r : Fin 64) (c : Fin 512) :
    k0_pay12 x5 w s z a (ix2 r c) = (Spec.lowNibble (w (ix2 r c)) - z (ix2 0 c)) * s (ix2 0 c)
      + Spec.two * ∑ l, a (ix3 0 r l) * x5 (ix2 l c) := by
  pointwise [k0_pay12, k0_pay9, k0_pay10, k0_pay11]
  rfl

/-- The odd rows of a group, before the group is named. -/
theorem oddRows_apply (w : Vec Ideal S64x512 .i8) (s z : Vec Ideal S1x512 .f32) (a : Vec Ideal S1x64x32 .bf16)
    (r : Fin 64) (c : Fin 512) :
    k0_pay2 x5 (k0_pay14 w s z) a (ix2 r c) = (Spec.highNibble (w (ix2 r c)) - z (ix2 0 c)) * s (ix2 0 c)
      + Spec.two * ∑ l, a (ix3 0 r l) * x5 (ix2 l c) := by
  pointwise [k0_pay2, k0_pay14, k0_pay9, k0_pay10, k0_pay11]
  rfl

/-- Row `r` of the codes of group `g` is row `64 g + r` of the tile. -/
theorem codes_apply (g : ℕ) (r : Fin 64) (c : Fin 512) (k : Fin 6144) (h : k.val = 64 * g + r.val) :
    codes x1 g (ix2 r c) = x1 (ix2 k c) := by
  have e : (⟨(64 * g + r.val) % 6144, Nat.mod_lt _ (by omega)⟩ : Fin 6144) = k := Fin.ext (by simp only; omega)
  rw [ix2_eq_valueIdx k c, ← e]
  rfl

/-- The scale row of group `g` is the row of any code row of the group. -/
theorem groupRow_apply (x : Vec Ideal S96x512 .f32) (g : ℕ) (r : Fin 64) (c : Fin 512) (k : Fin 6144)
    (h : k.val = 64 * g + r.val) : groupRow x g (ix2 0 c) = x (ix2 (Spec.group k) c) := by
  have e : (⟨g % 96, Nat.mod_lt _ (by omega)⟩ : Fin 96) = Spec.group k := Fin.ext (by simp only; omega)
  rw [ix2_eq_valueIdx (Spec.group k) c, ← e]
  rfl

/-- Row `r` of the low-rank factor of group `g` is row `64 g + r` of its plane. -/
theorem factor_apply (p : Fin 2) (g : ℕ) (r : Fin 64) (l : Fin 32) (k : Fin 6144) (h : k.val = 64 * g + r.val) :
    factor x4 p g (ix3 0 r l) = x4 (ix3 p k l) := by
  have e : (⟨(64 * g + r.val) % 6144, Nat.mod_lt _ (by omega)⟩ : Fin 6144) = k := Fin.ext (by simp only; omega)
  rw [ix3_eq_valueIdx p k l, ← e]
  rfl

/-- The even rows of group `g`. -/
theorem evenRows_group (g : ℕ) (r : Fin 64) (c : Fin 512) (k : Fin 6144) (h : k.val = 64 * g + r.val) :
    k0_pay12 x5 (codes x1 g) (groupRow x2 g) (groupRow x3 g) (factor x4 0 g) (ix2 r c) = low x1 x2 x3 x4 x5 k c := by
  rw [evenRows_apply, codes_apply x1 g r c k h, groupRow_apply x2 g r c k h, groupRow_apply x3 g r c k h]
  simp only [factor_apply x4 0 g r _ k h]
  rfl

/-- The odd rows of group `g`. -/
theorem oddRows_group (g : ℕ) (r : Fin 64) (c : Fin 512) (k : Fin 6144) (h : k.val = 64 * g + r.val) :
    k0_pay2 x5 (k0_pay14 (codes x1 g) (groupRow x2 g) (groupRow x3 g)) (factor x4 1 g) (ix2 r c)
      = high x1 x2 x3 x4 x5 k c := by
  rw [oddRows_apply, codes_apply x1 g r c k h, groupRow_apply x2 g r c k h, groupRow_apply x3 g r c k h]
  simp only [factor_apply x4 1 g r _ k h]
  rfl

/-! ## The merged weight -/

/-- The two halves interleaved, an even row. -/
theorem merged_even (v : FVec Ideal S64x512 .f32) (w : FVec Ideal S64x512 .f32) (a : Vec Ideal S1x64x32 .bf16)
    (r : Fin 64) (c : Fin 512) (R : Fin 128) (h : R.val = 2 * r.val) :
    k0_pay4 x5 v w a (ix2 R c) = v (ix2 r c) := by
  have e : (⟨R.val / 2, by omega⟩ : Fin 64) = r := Fin.ext (by simp only; omega)
  pointwise [k0_pay4]
  rw [if_pos (by omega), e]

/-- The two halves interleaved, an odd row. -/
theorem merged_odd (v : FVec Ideal S64x512 .f32) (w : FVec Ideal S64x512 .f32) (a : Vec Ideal S1x64x32 .bf16)
    (r : Fin 64) (c : Fin 512) (R : Fin 128) (h : R.val = 2 * r.val + 1) :
    k0_pay4 x5 v w a (ix2 R c) = k0_pay2 x5 w a (ix2 r c) := by
  have e : (⟨R.val / 2, by omega⟩ : Fin 64) = r := Fin.ext (by simp only; omega)
  pointwise [k0_pay4]
  rw [if_neg (by omega), e]

/-- An even row of the tile's merged weight. -/
theorem weight_even (k : Fin 6144) (c : Fin 512) :
    weight x1 x2 x3 x4 x5 (ix2 (Spec.even k) c) = low x1 x2 x3 x4 x5 k c := by
  have hr : k.val % 64 < 64 := Nat.mod_lt _ (by omega)
  rw [weight_apply x1 x2 x3 x4 x5 (ix2 (Spec.even k) c) (k.val / 64) ⟨2 * (k.val % 64), by omega⟩ c
    (by simp only [ix2]; show 2 * k.val = 128 * (k.val / 64) + 2 * (k.val % 64); omega) rfl, ← ix2_eq_valueIdx]
  unfold piece
  rw [merged_even x5 _ _ _ ⟨k.val % 64, hr⟩ c _ rfl]
  exact evenRows_group x1 x2 x3 x4 x5 (k.val / 64) ⟨k.val % 64, hr⟩ c k (by simp only; omega)

/-- An odd row of the tile's merged weight. -/
theorem weight_odd (k : Fin 6144) (c : Fin 512) :
    weight x1 x2 x3 x4 x5 (ix2 (Spec.odd k) c) = high x1 x2 x3 x4 x5 k c := by
  have hr : k.val % 64 < 64 := Nat.mod_lt _ (by omega)
  rw [weight_apply x1 x2 x3 x4 x5 (ix2 (Spec.odd k) c) (k.val / 64) ⟨2 * (k.val % 64) + 1, by omega⟩ c
    (by simp only [ix2]; show 2 * k.val + 1 = 128 * (k.val / 64) + (2 * (k.val % 64) + 1); omega) rfl, ← ix2_eq_valueIdx]
  unfold piece
  rw [merged_odd x5 _ _ _ ⟨k.val % 64, hr⟩ c _ rfl]
  exact oddRows_group x1 x2 x3 x4 x5 (k.val / 64) ⟨k.val % 64, hr⟩ c k (by simp only; omega)

/-! ## The sums of squares -/

/-- The square of the entry of code row `j`'s low bits (the row taken below 6144). -/
def lowSq (c : Fin 512) (j : ℕ) : EReal :=
  low x1 x2 x3 x4 x5 ⟨j % 6144, Nat.mod_lt _ (by omega)⟩ c * low x1 x2 x3 x4 x5 ⟨j % 6144, Nat.mod_lt _ (by omega)⟩ c

/-- The square of the entry of code row `j`'s high bits (the row taken below 6144). -/
def highSq (c : Fin 512) (j : ℕ) : EReal :=
  high x1 x2 x3 x4 x5 ⟨j % 6144, Nat.mod_lt _ (by omega)⟩ c * high x1 x2 x3 x4 x5 ⟨j % 6144, Nat.mod_lt _ (by omega)⟩ c

/-- The even rows' squares of one group, added to a running sum. -/
theorem addEven_apply (v : FVec Ideal S8x512 .f32) (w : Vec Ideal S64x512 .i8) (s z : Vec Ideal S1x512 .f32)
    (a : Vec Ideal S1x64x32 .bf16) (r : Fin 8) (c : Fin 512) :
    k0_pay13 x5 v w s z a (ix2 r c) = v (ix2 r c) + ∑ q : Fin 8,
      k0_pay12 x5 w s z a (ix2 ⟨q.val * 8 + r.val, by omega⟩ c) * k0_pay12 x5 w s z a (ix2 ⟨q.val * 8 + r.val, by omega⟩ c) := by
  pointwise [k0_pay13]

/-- The odd rows' squares of one group, added to a running sum. -/
theorem addOdd_apply (v : FVec Ideal S8x512 .f32) (w : FVec Ideal S64x512 .f32)
    (a : Vec Ideal S1x64x32 .bf16) (r : Fin 8) (c : Fin 512) :
    k0_pay3 x5 v w a (ix2 r c) = v (ix2 r c) + ∑ q : Fin 8,
      k0_pay2 x5 w a (ix2 ⟨q.val * 8 + r.val, by omega⟩ c) * k0_pay2 x5 w a (ix2 ⟨q.val * 8 + r.val, by omega⟩ c) := by
  pointwise [k0_pay3]

/-- The running sums, one group on. -/
theorem acc_succ (n : ℕ) : acc x1 x2 x3 x4 x5 (n + 1)
    = k0_pay3 x5 (k0_pay13 x5 (acc x1 x2 x3 x4 x5 n) (codes x1 n) (groupRow x2 n) (groupRow x3 n) (factor x4 0 n))
      (k0_pay14 (codes x1 n) (groupRow x2 n) (groupRow x3 n)) (factor x4 1 n) := rfl

/-- The running sums before group `n`: the squares of every eighth row of the groups before it. -/
theorem acc_apply (n : ℕ) (hn : n ≤ 96) (r : Fin 8) (c : Fin 512) :
    acc x1 x2 x3 x4 x5 n (ix2 r c) = ∑ g ∈ Finset.range n,
      ((∑ q : Fin 8, lowSq x1 x2 x3 x4 x5 c (64 * g + (8 * q.val + r.val)))
        + ∑ q : Fin 8, highSq x1 x2 x3 x4 x5 c (64 * g + (8 * q.val + r.val))) := by
  induction n with
  | zero =>
      simp only [acc, Finset.range_zero, Finset.sum_empty]
      pointwise [k0_pay1]
  | succ n ih =>
      have hq (q : Fin 8) : ((64 * n + (8 * q.val + r.val)) % 6144) = 64 * n + (q.val * 8 + r.val) := by omega
      have hl (q : Fin 8) := evenRows_group x1 x2 x3 x4 x5 n ⟨q.val * 8 + r.val, by omega⟩ c
        ⟨(64 * n + (8 * q.val + r.val)) % 6144, Nat.mod_lt _ (by omega)⟩ (hq q)
      have hh (q : Fin 8) := oddRows_group x1 x2 x3 x4 x5 n ⟨q.val * 8 + r.val, by omega⟩ c
        ⟨(64 * n + (8 * q.val + r.val)) % 6144, Nat.mod_lt _ (by omega)⟩ (hq q)
      rw [Finset.sum_range_succ, ← ih (by omega)]
      rw [acc_succ, addOdd_apply, addEven_apply, add_assoc]
      simp only [hl, hh]
      rfl

/-- A sum over `m` tiles of `n` places, the tiles outermost. -/
theorem sum_tiles (m n : ℕ) (f : ℕ → EReal) :
    ∑ k : Fin (m * n), f k.val = ∑ i : Fin m, ∑ j : Fin n, f (n * i.val + j.val) := by
  rw [← finProdFinEquiv.sum_comp, Fintype.sum_prod_type]
  refine Finset.sum_congr rfl fun i _ => Finset.sum_congr rfl fun j _ => ?_
  rw [finProdFinEquiv_apply_val, Nat.add_comm]

/-- The partial sums put together: eight residues, 96 groups and 8 blocks of a group are the 6144 code rows. -/
theorem sum_regroup (f : ℕ → EReal) :
    ∑ r : Fin 8, ∑ g ∈ Finset.range 96, ∑ q : Fin 8, f (64 * g + (8 * q.val + r.val)) = ∑ k : Fin 6144, f k.val := by
  rw [Finset.sum_comm, sum_tiles 96 64 f, ← Fin.sum_univ_eq_sum_range (fun g => ∑ r : Fin 8, ∑ q : Fin 8, f (64 * g + (8 * q.val + r.val)))]
  refine Finset.sum_congr rfl fun g _ => ?_
  rw [Finset.sum_comm, sum_tiles 8 8 fun j => f (64 * g.val + j)]

/-- The eight running sums after the last group, added: the squared length of a column. -/
theorem sum_acc (c : Fin 512) :
    ∑ r : Fin 8, acc x1 x2 x3 x4 x5 96 (ix2 r c)
      = (∑ k, low x1 x2 x3 x4 x5 k c * low x1 x2 x3 x4 x5 k c) + ∑ k, high x1 x2 x3 x4 x5 k c * high x1 x2 x3 x4 x5 k c := by
  have e (k : Fin 6144) (h : k.val % 6144 < 6144) : (⟨k.val % 6144, h⟩ : Fin 6144) = k := Fin.ext (Nat.mod_eq_of_lt k.isLt)
  simp only [acc_apply x1 x2 x3 x4 x5 96 le_rfl, Finset.sum_add_distrib]
  rw [sum_regroup, sum_regroup]
  simp only [lowSq, highSq, e]

/-- The length row of the tile. -/
theorem norm_apply (c : Fin 512) :
    norm x1 x2 x3 x4 x5 (ix3 0 0 c) = Ideal.sqrt ((∑ k, low x1 x2 x3 x4 x5 k c * low x1 x2 x3 x4 x5 k c)
      + ∑ k, high x1 x2 x3 x4 x5 k c * high x1 x2 x3 x4 x5 k c) := by
  rw [← sum_acc]
  unfold norm
  pointwise [k0_pay6, k0_pay5]

/-- The rescale row of the tile. -/
theorem scale_apply (c : Fin 512) :
    scale x1 x2 x3 x4 x5 x6 (ix2 0 c) = Ideal.div (x6 (ix3 0 0 c))
      (Ideal.sqrt ((∑ k, low x1 x2 x3 x4 x5 k c * low x1 x2 x3 x4 x5 k c)
        + ∑ k, high x1 x2 x3 x4 x5 k c * high x1 x2 x3 x4 x5 k c)) := by
  rw [← sum_acc]
  unfold scale
  pointwise [k0_pay7, k0_pay5]

/-! ## One output block -/

/-- A sum over the weight's 12288 rows: the even rows, then the odd ones. -/
theorem sum_even_odd (f : Fin 12288 → EReal) : ∑ k, f k = (∑ k, f (Spec.even k)) + ∑ k, f (Spec.odd k) := by
  have h (g : Fin (6144 * 2) → EReal) : ∑ k, g k = ∑ i : Fin 6144, ∑ j : Fin 2, g (finProdFinEquiv (i, j)) := by
    rw [← finProdFinEquiv.sum_comp, Fintype.sum_prod_type]
  refine (h f).trans ?_
  simp only [Fin.sum_univ_two, Finset.sum_add_distrib]
  refine congrArg₂ (· + ·) (Finset.sum_congr rfl fun k _ => congrArg f (Fin.ext ?_))
    (Finset.sum_congr rfl fun k _ => congrArg f (Fin.ext ?_))
  · rw [finProdFinEquiv_apply_val]; show 0 + 2 * k.val = 2 * k.val; omega
  · rw [finProdFinEquiv_apply_val]; show 1 + 2 * k.val = 2 * k.val + 1; omega

/-- One entry of an output block: the input row times the merged weight's column, rescaled. -/
theorem outBlock_apply (x0 : Vec Ideal S512x12288 .bf16) (s : Vec Ideal S1x512 .f32) (r c : Fin 512) :
    k0_pay8 x0 (weight x1 x2 x3 x4 x5) s (ix2 r c)
      = ((∑ k, x0 (ix2 r (Spec.even k)) * low x1 x2 x3 x4 x5 k c) + ∑ k, x0 (ix2 r (Spec.odd k)) * high x1 x2 x3 x4 x5 k c)
        * s (ix2 0 c) := by
  pointwise [k0_pay8]
  rw [sum_even_odd]
  simp only [weight_even, weight_odd]

end Cert.KernelIdeal.Tile

end
-- ==== Proof.Blocks.lean ====
/-
  What each input window's block holds, entry by entry, in terms of the arguments: where a grid point's block lies in its
  array, and what the host lines before the kernel put there.
-/
module

public import proofs.«01_k».proof.Proof.IdealFrame
public import proofs.«01_k».proof.Proof.TileRead
public import Idealize.ShloMosaic.Lib.Claim

@[expose] public section

noncomputable section

namespace Cert.KernelIdeal.Tile

open Idealize.ShloMosaic Idealize.ShloMosaic.TcCoe
open Cert.KernelIdeal.Gen

/-! ## The host lines' rearrangements, of any array -/

/-- The flattening of the input's first two axes. -/
theorem flatten_apply (v : Vec Ideal S2x3072x12288 .bf16) (R : Fin 6144) (k : Fin 12288) :
    shapeCast S6144x12288 v shapeCasts_S2x3072x12288_S6144x12288 (ix2 R k)
      = v (ix3 ⟨R.val / 3072, by omega⟩ ⟨R.val % 3072, Nat.mod_lt _ (by omega)⟩ k) := by
  pointwise

/-- The parting of the low-rank factor's even and odd rows. -/
theorem parted_apply (v : Vec Ideal S12288x32 .bf16) (p : Fin 2) (k : Fin 6144) (l : Fin 32) :
    transpose S2x6144x32 [1, 0, 2] (shapeCast S6144x2x32 v shapeCasts_S12288x32_S6144x2x32)
      transposes_S6144x2x32_S2x6144x32_1_0_2 (ix3 p k l) = v (ix2 ⟨k.val * 2 + p.val, by omega⟩ l) := by
  pointwise

/-- The cutting of the wanted lengths in tiles. -/
theorem tiled_apply (v : Vec Ideal S28672 .f32) (j : Fin 56) (cc : Fin 512) :
    shapeCast S56x1x512 v shapeCasts_S28672_S56x1x512 (ix3 j 0 cc) = v (ix1 ⟨j.val * 512 + cc.val, by omega⟩) := by
  pointwise

/-- The parting of the output's rows by batch. -/
theorem unflatten_apply (v : Vec Ideal S6144x28672 .bf16) (b : Fin 2) (s : Fin 3072) (n : Fin 28672) :
    shapeCast S2x3072x28672 v shapeCasts_S6144x28672_S2x3072x28672 (ix3 b s n)
      = v (ix2 ⟨b.val * 3072 + s.val, by omega⟩ n) := by
  pointwise

/-- The joining of the tiles of the column lengths. -/
theorem untiled_apply (v : Vec Ideal S56x1x512 .f32) (n : Fin 28672) :
    shapeCast S28672 v shapeCasts_S56x1x512_S28672 (ix1 n)
      = v (ix3 ⟨n.val / 512, by omega⟩ 0 ⟨n.val % 512, Nat.mod_lt _ (by omega)⟩) := by
  pointwise

variable (m : (ℓ : Loc nD τ sig) → Buf (Elt Ideal) ℓ) (c : Dev nD)

/-- The kernel's arguments on device `c`, as functions of the coordinates. -/
def args : Spec.Args where
  x b s k := m ((c.tc : Thread nD τ).loc main_arg0) (ix3 b s k)
  codes k n := m ((c.tc : Thread nD τ).loc main_arg1) (ix2 k n)
  scales g n := m ((c.tc : Thread nD τ).loc main_arg2) (ix2 g n)
  zeros g n := m ((c.tc : Thread nD τ).loc main_arg3) (ix2 g n)
  a k l := m ((c.tc : Thread nD τ).loc main_arg4) (ix2 k l)
  b l n := m ((c.tc : Thread nD τ).loc main_arg5) (ix2 l n)
  mag n := m ((c.tc : Thread nD τ).loc main_arg6) (ix1 n)

/-! ## The grid's coordinates -/

/-- The column tile of a grid point. -/
theorem col_val (t : Fin cfg0.N) : ((grid0.coords t) 0).val = t.val / 12 := by
  have hN : t.val < 672 := lt_of_lt_of_eq t.isLt N_0
  have e : ((grid0.coords t) 0).val = t.val / 12 % 56 := Pipeline.Grid.coords_val t 0 (by decide) rfl
  omega

/-- The row tile of a grid point. -/
theorem row_val (t : Fin cfg0.N) : ((grid0.coords t) 1).val = t.val % 12 := by
  have e : ((grid0.coords t) 1).val = t.val / 1 % 12 := Pipeline.Grid.coords_val t 1 (by decide) rfl
  omega

/-- A grid coordinate as a word and back. -/
theorem word_col (t : Fin cfg0.N) : (BitVec.ofNat 32 ((grid0.coords t) 0).val).toNat = t.val / 12 := by
  have hN : t.val < 672 := lt_of_lt_of_eq t.isLt N_0
  rw [col_val, BitVec.toNat_ofNat]
  omega

/-- A grid coordinate as a word and back. -/
theorem word_row (t : Fin cfg0.N) : (BitVec.ofNat 32 ((grid0.coords t) 1).val).toNat = t.val % 12 := by
  rw [row_val, BitVec.toNat_ofNat]
  omega

/-- Column `cc` of tile `j`. -/
abbrev colAt (j : ℕ) (hj : j < 56) (cc : Fin 512) : Fin 28672 := ⟨j * 512 + cc.val, by omega⟩

/-- The column tile of a grid point, in range. -/
theorem col_lt (t : Fin cfg0.N) : t.val / 12 < 56 := by
  have hN : t.val < 672 := lt_of_lt_of_eq t.isLt N_0
  omega

/-! ## What the host lines leave in the arrays -/

/-- The flattened input, as a whole. -/
theorem array_x : V m c main_v2 = shapeCast S6144x12288 (m ((c.tc : Thread nD τ).loc main_arg0)) shapeCasts_S2x3072x12288_S6144x12288 := by
  entry_read
  rfl

/-- The flattened input. -/
theorem entry_x (R : Fin 6144) (k : Fin 12288) :
    V m c main_v2 (ix2 R k) = (args m c).x ⟨R.val / 3072, by omega⟩ ⟨R.val % 3072, Nat.mod_lt _ (by omega)⟩ k := by
  rw [array_x, flatten_apply]
  rfl

/-- The scales, widened, as a whole. -/
theorem array_scales : V m c main_v3 = m ((c.tc : Thread nD τ).loc main_arg2) := by
  entry_read
  rfl

/-- The scales, widened. -/
theorem entry_scales (g : Fin 96) (n : Fin 28672) : V m c main_v3 (ix2 g n) = (args m c).scales g n := by
  rw [array_scales]
  rfl

/-- The zero points, widened, as a whole. -/
theorem array_zeros : V m c main_v4 = m ((c.tc : Thread nD τ).loc main_arg3) := by
  entry_read
  rfl

/-- The zero points, widened. -/
theorem entry_zeros (g : Fin 96) (n : Fin 28672) : V m c main_v4 (ix2 g n) = (args m c).zeros g n := by
  rw [array_zeros]
  rfl

/-- The left low-rank factor with its even and odd rows parted, as a whole. -/
theorem array_a : V m c main_v1 = transpose S2x6144x32 [1, 0, 2]
    (shapeCast S6144x2x32 (m ((c.tc : Thread nD τ).loc main_arg4)) shapeCasts_S12288x32_S6144x2x32)
    transposes_S6144x2x32_S2x6144x32_1_0_2 := by
  entry_read
  rfl

/-- The low-rank factor's even rows. -/
theorem entry_a0 (k : Fin 6144) (l : Fin 32) : V m c main_v1 (ix3 0 k l) = (args m c).a (Spec.even k) l := by
  rw [array_a, parted_apply]
  show (args m c).a _ l = _
  exact congrArg (fun k => (args m c).a k l) (Fin.ext (show k.val * 2 + 0 = 2 * k.val by omega))

/-- The low-rank factor's odd rows. -/
theorem entry_a1 (k : Fin 6144) (l : Fin 32) : V m c main_v1 (ix3 1 k l) = (args m c).a (Spec.odd k) l := by
  rw [array_a, parted_apply]
  show (args m c).a _ l = _
  exact congrArg (fun k => (args m c).a k l) (Fin.ext (show k.val * 2 + 1 = 2 * k.val + 1 by omega))

/-- The wanted lengths, cut in tiles, as a whole. -/
theorem array_mag : V m c main_v5 = shapeCast S56x1x512 (m ((c.tc : Thread nD τ).loc main_arg6)) shapeCasts_S28672_S56x1x512 := by
  entry_read
  rfl

/-- The wanted lengths, cut in tiles. -/
theorem entry_mag (j : Fin 56) (cc : Fin 512) : V m c main_v5 (ix3 j 0 cc) = (args m c).mag (colAt j.val j.isLt cc) := by
  rw [array_mag, tiled_apply]
  rfl

/-! ## The blocks -/

/-- Row tile `t % 12` of the input. -/
theorem block_x (t : Fin cfg0.N) (r : Fin 512) (k : Fin 12288) (R : Fin 6144) (h : R.val = t.val % 12 * 512 + r.val) :
    iblk m c 0 t (ix2 r k) = V m c main_v2 (ix2 R k) := by
  show V m c main_v2 ((win0_0.rect t).emb (ix2 r k)) = _
  refine congrArg (V m c main_v2) (Shape.idx_ext₂ ?_ ?_)
  · refine (Pipeline.Window.rect_emb_val win0_0 t (ix2 r k) 0).trans ?_
    show (BitVec.ofNat 32 ((grid0.coords t) 1).val).toNat * 512 + r.val = R.val
    rw [word_row, h]
  · refine (Pipeline.Window.rect_emb_val win0_0 t (ix2 r k) 1).trans ?_
    show 0 * 12288 + k.val = k.val
    omega

/-- Column tile `t / 12` of the codes. -/
theorem block_codes (t : Fin cfg0.N) (k : Fin 6144) (cc : Fin 512) :
    iblk m c 1 t (ix2 k cc) = V m c main_arg1 (ix2 k (colAt (t.val / 12) (col_lt t) cc)) := by
  show V m c main_arg1 ((win0_1.rect t).emb (ix2 k cc)) = _
  refine congrArg (V m c main_arg1) (Shape.idx_ext₂ ?_ ?_)
  · refine (Pipeline.Window.rect_emb_val win0_1 t (ix2 k cc) 0).trans ?_
    show 0 * 6144 + k.val = k.val
    omega
  · refine (Pipeline.Window.rect_emb_val win0_1 t (ix2 k cc) 1).trans ?_
    show (BitVec.ofNat 32 ((grid0.coords t) 0).val).toNat * 512 + cc.val = t.val / 12 * 512 + cc.val
    rw [word_col]

/-- Column tile `t / 12` of the scales. -/
theorem block_scales (t : Fin cfg0.N) (g : Fin 96) (cc : Fin 512) :
    iblk m c 2 t (ix2 g cc) = V m c main_v3 (ix2 g (colAt (t.val / 12) (col_lt t) cc)) := by
  show V m c main_v3 ((win0_2.rect t).emb (ix2 g cc)) = _
  refine congrArg (V m c main_v3) (Shape.idx_ext₂ ?_ ?_)
  · refine (Pipeline.Window.rect_emb_val win0_2 t (ix2 g cc) 0).trans ?_
    show 0 * 96 + g.val = g.val
    omega
  · refine (Pipeline.Window.rect_emb_val win0_2 t (ix2 g cc) 1).trans ?_
    show (BitVec.ofNat 32 ((grid0.coords t) 0).val).toNat * 512 + cc.val = t.val / 12 * 512 + cc.val
    rw [word_col]

/-- Column tile `t / 12` of the zero points. -/
theorem block_zeros (t : Fin cfg0.N) (g : Fin 96) (cc : Fin 512) :
    iblk m c 3 t (ix2 g cc) = V m c main_v4 (ix2 g (colAt (t.val / 12) (col_lt t) cc)) := by
  show V m c main_v4 ((win0_3.rect t).emb (ix2 g cc)) = _
  refine congrArg (V m c main_v4) (Shape.idx_ext₂ ?_ ?_)
  · refine (Pipeline.Window.rect_emb_val win0_3 t (ix2 g cc) 0).trans ?_
    show 0 * 96 + g.val = g.val
    omega
  · refine (Pipeline.Window.rect_emb_val win0_3 t (ix2 g cc) 1).trans ?_
    show (BitVec.ofNat 32 ((grid0.coords t) 0).val).toNat * 512 + cc.val = t.val / 12 * 512 + cc.val
    rw [word_col]

/-- The whole left low-rank factor. -/
theorem block_a (t : Fin cfg0.N) (p : Fin 2) (k : Fin 6144) (l : Fin 32) :
    iblk m c 4 t (ix3 p k l) = V m c main_v1 (ix3 p k l) := by
  show V m c main_v1 ((win0_4.rect t).emb (ix3 p k l)) = _
  refine congrArg (V m c main_v1) (funext fun a => Fin.ext ?_)
  refine (Pipeline.Window.rect_emb_val win0_4 t (ix3 p k l) a).trans ?_
  match a with
  | ⟨0, _⟩ => show 0 * 2 + p.val = p.val; omega
  | ⟨1, _⟩ => show 0 * 6144 + k.val = k.val; omega
  | ⟨2, _⟩ => show 0 * 32 + l.val = l.val; omega

/-- Column tile `t / 12` of the right low-rank factor. -/
theorem block_b (t : Fin cfg0.N) (l : Fin 32) (cc : Fin 512) :
    iblk m c 5 t (ix2 l cc) = V m c main_arg5 (ix2 l (colAt (t.val / 12) (col_lt t) cc)) := by
  show V m c main_arg5 ((win0_5.rect t).emb (ix2 l cc)) = _
  refine congrArg (V m c main_arg5) (Shape.idx_ext₂ ?_ ?_)
  · refine (Pipeline.Window.rect_emb_val win0_5 t (ix2 l cc) 0).trans ?_
    show 0 * 32 + l.val = l.val
    omega
  · refine (Pipeline.Window.rect_emb_val win0_5 t (ix2 l cc) 1).trans ?_
    show (BitVec.ofNat 32 ((grid0.coords t) 0).val).toNat * 512 + cc.val = t.val / 12 * 512 + cc.val
    rw [word_col]

/-- Tile `t / 12` of the wanted lengths. -/
theorem block_mag (t : Fin cfg0.N) (cc : Fin 512) :
    iblk m c 6 t (ix3 0 0 cc) = V m c main_v5 (ix3 (⟨t.val / 12, col_lt t⟩ : Fin 56) 0 cc) := by
  show V m c main_v5 ((win0_6.rect t).emb (ix3 0 0 cc)) = _
  refine congrArg (V m c main_v5) (funext fun a => Fin.ext ?_)
  refine (Pipeline.Window.rect_emb_val win0_6 t (ix3 0 0 cc) a).trans ?_
  match a with
  | ⟨0, _⟩ =>
    show (BitVec.ofNat 32 ((grid0.coords t) 0).val).toNat * 1 + 0 = t.val / 12
    rw [word_col]; omega
  | ⟨1, _⟩ => show 0 * 1 + 0 = 0; omega
  | ⟨2, _⟩ => show 0 * 512 + cc.val = cc.val; omega

end Cert.KernelIdeal.Tile

end
-- ==== Proof.Arrays.lean ====
/-
  What the kernel's two result arrays hold when the pipeline ends, and what its host lines return: the specified output
  and the specified column lengths.
-/
module

public import proofs.«01_k».proof.Proof.Blocks
public import Idealize.ShloMosaic.Lib.Pipeline.ValueKit

@[expose] public section

noncomputable section

namespace Cert.KernelIdeal.Tile

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-! ## A column tile is the specified one -/

/-- The first point of column tile `j` lies in column tile `j`. -/
theorem first_col (j : ℕ) (hj : j < 56) (h : (first j).val / 12 < 56) (cc : Fin 512) :
    colAt ((first j).val / 12) h cc = colAt j hj cc := by
  refine Fin.ext ?_
  show 12 * j % 672 / 12 * 512 + cc.val = j * 512 + cc.val
  omega

/-- The tile's codes. -/
theorem tile_codes (j : ℕ) (hj : j < 56) (k : Fin 6144) (cc : Fin 512) :
    iblk m c 1 (first j) (ix2 k cc) = (args m c).codes k (colAt j hj cc) :=
  (block_codes m c (first j) k cc).trans ((congrFun (V_main_arg1 m c) _).trans
    (congrArg ((args m c).codes k) (first_col j hj _ cc)))

/-- The tile's scales. -/
theorem tile_scales (j : ℕ) (hj : j < 56) (g : Fin 96) (cc : Fin 512) :
    iblk m c 2 (first j) (ix2 g cc) = (args m c).scales g (colAt j hj cc) :=
  (block_scales m c (first j) g cc).trans ((entry_scales m c _ _).trans
    (congrArg ((args m c).scales g) (first_col j hj _ cc)))

/-- The tile's zero points. -/
theorem tile_zeros (j : ℕ) (hj : j < 56) (g : Fin 96) (cc : Fin 512) :
    iblk m c 3 (first j) (ix2 g cc) = (args m c).zeros g (colAt j hj cc) :=
  (block_zeros m c (first j) g cc).trans ((entry_zeros m c _ _).trans
    (congrArg ((args m c).zeros g) (first_col j hj _ cc)))

/-- The tile's right low-rank factor. -/
theorem tile_b (j : ℕ) (hj : j < 56) (l : Fin 32) (cc : Fin 512) :
    iblk m c 5 (first j) (ix2 l cc) = (args m c).b l (colAt j hj cc) :=
  (block_b m c (first j) l cc).trans ((congrFun (V_main_arg5 m c) _).trans
    (congrArg ((args m c).b l) (first_col j hj _ cc)))

/-- The tile's wanted lengths. -/
theorem tile_mag (j : ℕ) (hj : j < 56) (cc : Fin 512) :
    iblk m c 6 (first j) (ix3 0 0 cc) = (args m c).mag (colAt j hj cc) :=
  (block_mag m c (first j) cc).trans ((entry_mag m c _ _).trans (congrArg (args m c).mag (first_col j hj _ cc)))

/-- A tile's even weight rows are the specified ones where its arrays are. -/
theorem low_congr (x1 : Vec Ideal S6144x512 .i8) (x2 x3 : Vec Ideal S96x512 .f32) (x4 : Vec Ideal S2x6144x32 .bf16)
    (x5 : Vec Ideal S32x512 .bf16) (p : Spec.Args) (k : Fin 6144) (cc : Fin 512) (n : Fin 28672)
    (h1 : x1 (ix2 k cc) = p.codes k n) (h2 : x2 (ix2 (Spec.group k) cc) = p.scales (Spec.group k) n)
    (h3 : x3 (ix2 (Spec.group k) cc) = p.zeros (Spec.group k) n) (h4 : ∀ l, x4 (ix3 0 k l) = p.a (Spec.even k) l)
    (h5 : ∀ l, x5 (ix2 l cc) = p.b l n) : low x1 x2 x3 x4 x5 k cc = Spec.low p k n := by
  unfold low Spec.low
  rw [h1, h2, h3]
  simp only [h4, h5]

/-- A tile's odd weight rows are the specified ones where its arrays are. -/
theorem high_congr (x1 : Vec Ideal S6144x512 .i8) (x2 x3 : Vec Ideal S96x512 .f32) (x4 : Vec Ideal S2x6144x32 .bf16)
    (x5 : Vec Ideal S32x512 .bf16) (p : Spec.Args) (k : Fin 6144) (cc : Fin 512) (n : Fin 28672)
    (h1 : x1 (ix2 k cc) = p.codes k n) (h2 : x2 (ix2 (Spec.group k) cc) = p.scales (Spec.group k) n)
    (h3 : x3 (ix2 (Spec.group k) cc) = p.zeros (Spec.group k) n) (h4 : ∀ l, x4 (ix3 1 k l) = p.a (Spec.odd k) l)
    (h5 : ∀ l, x5 (ix2 l cc) = p.b l n) : high x1 x2 x3 x4 x5 k cc = Spec.high p k n := by
  unfold high Spec.high
  rw [h1, h2, h3]
  simp only [h4, h5]

/-- The tile's even weight rows. -/
theorem tile_low (j : ℕ) (hj : j < 56) (k : Fin 6144) (cc : Fin 512) :
    low (iblk m c 1 (first j)) (iblk m c 2 (first j)) (iblk m c 3 (first j)) (iblk m c 4 (first j)) (iblk m c 5 (first j)) k cc
      = Spec.low (args m c) k (colAt j hj cc) :=
  low_congr _ _ _ _ _ (args m c) k cc (colAt j hj cc) (tile_codes m c j hj k cc) (tile_scales m c j hj _ cc)
    (tile_zeros m c j hj _ cc) (fun l => (block_a m c (first j) 0 k l).trans (entry_a0 m c k l)) (fun l => tile_b m c j hj l cc)

/-- The tile's odd weight rows. -/
theorem tile_high (j : ℕ) (hj : j < 56) (k : Fin 6144) (cc : Fin 512) :
    high (iblk m c 1 (first j)) (iblk m c 2 (first j)) (iblk m c 3 (first j)) (iblk m c 4 (first j)) (iblk m c 5 (first j)) k cc
      = Spec.high (args m c) k (colAt j hj cc) :=
  high_congr _ _ _ _ _ (args m c) k cc (colAt j hj cc) (tile_codes m c j hj k cc) (tile_scales m c j hj _ cc)
    (tile_zeros m c j hj _ cc) (fun l => (block_a m c (first j) 1 k l).trans (entry_a1 m c k l)) (fun l => tile_b m c j hj l cc)

/-- The tile's column lengths. -/
theorem tile_norm (j : ℕ) (hj : j < 56) (cc : Fin 512) :
    colNorm m c j (ix3 0 0 cc) = Spec.norm (args m c) (colAt j hj cc) := by
  unfold colNorm
  rw [norm_apply]
  simp only [tile_low m c j hj, tile_high m c j hj]
  rfl

/-- The tile's rescale row. -/
theorem tile_scale (j : ℕ) (hj : j < 56) (cc : Fin 512) :
    colScale m c j (ix2 0 cc)
      = Ideal.div ((args m c).mag (colAt j hj cc)) (Spec.norm (args m c) (colAt j hj cc)) := by
  unfold colScale
  rw [scale_apply, tile_mag m c j hj]
  simp only [tile_low m c j hj, tile_high m c j hj]
  rfl

/-- The output with its rows not yet parted by batch. -/
def flatOut : Vec Ideal S6144x28672 .bf16 := fun i =>
  Spec.out (args m c) ⟨(i 0).val / 3072, by have : (i 0).val < 6144 := (i 0).isLt; omega⟩
    ⟨(i 0).val % 3072, Nat.mod_lt _ (by omega)⟩ (i 1)

/-- The column lengths, tile by tile. -/
def tiledNorm : Vec Ideal S56x1x512 .f32 := fun i =>
  Spec.norm (args m c) (colAt (i 0).val (i 0).isLt (i 2))

/-- One entry of the output tile at a grid point. -/
theorem outTile_apply (t : Fin cfg0.N) (r cc : Fin 512) (R : Fin 6144) (h : R.val = t.val % 12 * 512 + r.val) :
    outTile m c t (ix2 r cc) = flatOut m c (ix2 R (colAt (t.val / 12) (col_lt t) cc)) := by
  refine (outBlock_apply _ _ _ _ _ _ _ r cc).trans (congrArg₂ (· * ·) (congrArg₂ (· + ·)
    (Finset.sum_congr rfl fun k _ => congrArg₂ (· * ·) ?_ (tile_low m c _ (col_lt t) k cc))
    (Finset.sum_congr rfl fun k _ => congrArg₂ (· * ·) ?_ (tile_high m c _ (col_lt t) k cc)))
    (tile_scale m c _ (col_lt t) cc))
  · exact (block_x m c t r _ R h).trans (entry_x m c R _)
  · exact (block_x m c t r _ R h).trans (entry_x m c R _)

/-! ## The arrays after the last point -/

set_option maxRecDepth 16384 in
/-- The output array. -/
theorem final_out : (dats m 0 c).arrAt 7 cfg0.N = flatOut m c := by
  refine (dats m 0 c).arrAt_eq_of_cover 7 (flatOut m c) (fun t _ => funext fun y => ?_) fun i => ?_
  · have hN : t.val < 672 := lt_of_lt_of_eq t.isLt N_0
    rw [Dat.flushed_apply, after0_7]
    show outTile m c t (y : S512x512.Idx) = flatOut m c ((win0_7.rect t).emb y)
    have h0 : (y 0 : ℕ) < 512 := (y 0).isLt
    have h1 : (y 1 : ℕ) < 512 := (y 1).isLt
    have e : (y : S512x512.Idx) = ix2 ⟨(y 0 : ℕ), h0⟩ ⟨(y 1 : ℕ), h1⟩ := Shape.idx_ext₂ rfl rfl
    refine ((congrArg (outTile m c t) e).trans (outTile_apply m c t _ _ ⟨t.val % 12 * 512 + (y 0 : ℕ), by omega⟩ rfl)).trans ?_
    refine congrArg (flatOut m c) (Shape.idx_ext₂ ?_ ?_)
    · refine Eq.symm ((Pipeline.Window.rect_emb_val win0_7 t y 0).trans ?_)
      show (BitVec.ofNat 32 ((grid0.coords t) 1).val).toNat * 512 + (y 0 : ℕ) = t.val % 12 * 512 + (y 0 : ℕ)
      rw [word_row]
    · refine Eq.symm ((Pipeline.Window.rect_emb_val win0_7 t y 1).trans ?_)
      show (BitVec.ofNat 32 ((grid0.coords t) 0).val).toNat * 512 + (y 1 : ℕ) = t.val / 12 * 512 + (y 1 : ℕ)
      rw [word_col]
  · have h0 : (i 0 : ℕ) < 6144 := (i 0).isLt
    have h1 : (i 1 : ℕ) < 28672 := (i 1).isLt
    have hN : cfg0.N = 672 := N_0
    obtain ⟨t, ht⟩ : ∃ t : Fin cfg0.N, t.val = 12 * ((i 1 : ℕ) / 512) + (i 0 : ℕ) / 512 := ⟨⟨_, by omega⟩, rfl⟩
    refine ⟨t, flush0_7 t, ?_⟩
    show i ∈ ((View.whole main_v6_0).slice (win0_7.rect t)).set
    rw [View.set_slice_whole, Rect.mem_set_unit]
    intro a
    match a with
    | ⟨0, _⟩ =>
      show (BitVec.ofNat 32 ((grid0.coords t) 1).val).toNat * 512 ≤ (i 0 : ℕ)
        ∧ (i 0 : ℕ) < (BitVec.ofNat 32 ((grid0.coords t) 1).val).toNat * 512 + 512
      rw [word_row]; omega
    | ⟨1, _⟩ =>
      show (BitVec.ofNat 32 ((grid0.coords t) 0).val).toNat * 512 ≤ (i 1 : ℕ)
        ∧ (i 1 : ℕ) < (BitVec.ofNat 32 ((grid0.coords t) 0).val).toNat * 512 + 512
      rw [word_col]; omega

set_option maxRecDepth 16384 in
/-- The array of column lengths. -/
theorem final_norm : (dats m 0 c).arrAt 8 cfg0.N = tiledNorm m c := by
  refine (dats m 0 c).arrAt_eq_of_cover 8 (tiledNorm m c) (fun t _ => funext fun y => ?_) fun i => ?_
  · rw [Dat.flushed_apply, after0_8]
    show colNorm m c (t.val / 12) (y : S1x1x512.Idx) = tiledNorm m c ((win0_8.rect t).emb y)
    have h0 : (y 0 : ℕ) < 1 := (y 0).isLt
    have h1 : (y 1 : ℕ) < 1 := (y 1).isLt
    have h2 : (y 2 : ℕ) < 512 := (y 2).isLt
    have e : (y : S1x1x512.Idx) = ix3 0 0 ⟨(y 2 : ℕ), h2⟩ := funext fun a => Fin.ext (match a with
      | ⟨0, _⟩ => show (y 0 : ℕ) = 0 by omega
      | ⟨1, _⟩ => show (y 1 : ℕ) = 0 by omega
      | ⟨2, _⟩ => rfl)
    refine ((congrArg (colNorm m c (t.val / 12)) e).trans (tile_norm m c _ (col_lt t) _)).trans ?_
    refine congrArg (Spec.norm (args m c)) (Fin.ext ?_)
    have e0 : ((win0_8.rect t).emb y 0 : ℕ) = t.val / 12 := by
      refine (Pipeline.Window.rect_emb_val win0_8 t y 0).trans ?_
      show (BitVec.ofNat 32 ((grid0.coords t) 0).val).toNat * 1 + (y 0 : ℕ) = t.val / 12
      rw [word_col]; omega
    have e2 : ((win0_8.rect t).emb y 2 : ℕ) = (y 2 : ℕ) := by
      refine (Pipeline.Window.rect_emb_val win0_8 t y 2).trans ?_
      show 0 * 512 + (y 2 : ℕ) = (y 2 : ℕ)
      omega
    show t.val / 12 * 512 + (y 2 : ℕ) = ((win0_8.rect t).emb y 0 : ℕ) * 512 + ((win0_8.rect t).emb y 2 : ℕ)
    rw [e0, e2]
  · have h0 : (i 0 : ℕ) < 56 := (i 0).isLt
    have h1 : (i 1 : ℕ) < 1 := (i 1).isLt
    have h2 : (i 2 : ℕ) < 512 := (i 2).isLt
    have hN : cfg0.N = 672 := N_0
    obtain ⟨t, ht⟩ : ∃ t : Fin cfg0.N, t.val = 12 * (i 0 : ℕ) + 11 := ⟨⟨_, by omega⟩, rfl⟩
    refine ⟨t, (flush0_8 t).mpr (by omega), ?_⟩
    show i ∈ ((View.whole main_v6_1).slice (win0_8.rect t)).set
    rw [View.set_slice_whole, Rect.mem_set_unit]
    intro a
    match a with
    | ⟨0, _⟩ =>
      show (BitVec.ofNat 32 ((grid0.coords t) 0).val).toNat * 1 ≤ (i 0 : ℕ)
        ∧ (i 0 : ℕ) < (BitVec.ofNat 32 ((grid0.coords t) 0).val).toNat * 1 + 1
      rw [word_col]; omega
    | ⟨1, _⟩ => show 0 * 1 ≤ (i 1 : ℕ) ∧ (i 1 : ℕ) < 0 * 1 + 1; omega
    | ⟨2, _⟩ => show 0 * 512 ≤ (i 2 : ℕ) ∧ (i 2 : ℕ) < 0 * 512 + 512; omega

/-! ## What the program returns -/

/-- The first result: the output array's rows parted by batch. -/
theorem returned_out : Pipeline.afterTail₀ cfgs (dats m) 0 (V0 m) [hostOps1] c main_v7
    = shapeCast S2x3072x28672 ((dats m 0 c).arrAt 7 cfg0.N) shapeCasts_S6144x28672_S2x3072x28672 := by
  unfold Pipeline.afterTail₀
  have e := Pipeline.withArrays_arr spec0 launch0.win.arr_inj c (V0 m c) (fun w => (dats m 0 c).arrAt w cfg0.N) 7
  entry_read
  exact congrArg (fun v => shapeCast S2x3072x28672 v shapeCasts_S6144x28672_S2x3072x28672) e

/-- The second result: the tiles of column lengths joined. -/
theorem returned_norm : Pipeline.afterTail₀ cfgs (dats m) 0 (V0 m) [hostOps1] c main_v8
    = shapeCast S28672 ((dats m 0 c).arrAt 8 cfg0.N) shapeCasts_S56x1x512_S28672 := by
  unfold Pipeline.afterTail₀
  have e := Pipeline.withArrays_arr spec0 launch0.win.arr_inj c (V0 m c) (fun w => (dats m 0 c).arrAt w cfg0.N) 8
  entry_read
  exact congrArg (fun v => shapeCast S28672 v shapeCasts_S56x1x512_S28672) e

/-- The first result is the specified output. -/
theorem out_eq : Pipeline.afterTail₀ cfgs (dats m) 0 (V0 m) [hostOps1] c main_v7
    = fun i => Spec.out (args m c) (i 0) (i 1) (i 2) := by
  rw [returned_out, final_out]
  funext i
  refine ((congrArg _ (eq_ix3 i)).trans (unflatten_apply (flatOut m c) (i 0) (i 1) (i 2))).trans ?_
  refine congrArg₂ (fun b s => Spec.out (args m c) b s (i 2)) (Fin.ext ?_) (Fin.ext ?_)
  · have h1 : (i 1 : ℕ) < 3072 := (i 1).isLt
    show ((i 0 : ℕ) * 3072 + (i 1 : ℕ)) / 3072 = (i 0 : ℕ)
    omega
  · have h1 : (i 1 : ℕ) < 3072 := (i 1).isLt
    show ((i 0 : ℕ) * 3072 + (i 1 : ℕ)) % 3072 = (i 1 : ℕ)
    omega

/-- The second result is the specified column lengths. -/
theorem norm_eq : Pipeline.afterTail₀ cfgs (dats m) 0 (V0 m) [hostOps1] c main_v8
    = fun i => Spec.norm (args m c) (i 0) := by
  rw [returned_norm, final_norm]
  funext i
  refine ((congrArg _ (eq_ix1 i)).trans (untiled_apply (tiledNorm m c) (i 0))).trans ?_
  refine congrArg (Spec.norm (args m c)) (Fin.ext ?_)
  show (i 0 : ℕ) / 512 * 512 + (i 0 : ℕ) % 512 = (i 0 : ℕ)
  omega

/-- THE RUN, READ: every weakly fair execution terminates with the two results at the specified values and the arguments
    unchanged. -/
theorem run_spec : θ_run defs (onTc (τ := τ) (main (F := Ideal))) ⟨m, fun _ => 0, ρ⟩ fun r => ∀ c : Dev nD,
      r.2.mem ((c.tc : Thread nD τ).loc main_v7) = (fun i => Spec.out (args m c) (i 0) (i 1) (i 2))
      ∧ r.2.mem ((c.tc : Thread nD τ).loc main_v8) = (fun i => Spec.norm (args m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h.1 c).2 main_v7 (Pipeline.mem_restRefs_of main_v7 (by decide) (by decide))).trans (out_eq m c),
      ((h.1 c).2 main_v8 (Pipeline.mem_restRefs_of main_v8 (by decide) (by decide))).trans (norm_eq m c),
      h.2 c⟩)
    (θ_run_and (run_main m ρ) (frame_of m ρ (dats m) (A_eq m) (run_main m ρ)))

end Cert.KernelIdeal.Tile

end
-- ==== Proof.ReferenceValue.lean ====
/-
  What the reference's two results hold, entry by entry.
-/
module

public import proofs.«01_k».proof.Proof.Gen.ReferenceIdeal.Run
public import proofs.«01_k».proof.Proof.Spec
public import Idealize.ShloMosaic.Lib.KernelVsHost

@[expose] public section

noncomputable section

namespace Cert.ReferenceIdeal.Value

open Cert.ReferenceIdeal Cert.ReferenceIdeal.Gen Idealize.ShloMosaic Idealize.ShloMosaic.TcCoe Idealize.SL.Sem

/-- The reference's second result, as the operations compose it. -/
def lengths {F : FTy → Type} [FloatOps F] (m : (ℓ : Loc nD τ sig) → Buf (Elt F) ℓ) (c : Dev nD) :
    Buf (Elt F) ((c.tc : Thread nD τ).loc main_v34) :=
  Host.sqrt (addf (Host.reduceAdd (mulf (addf (extf .f32 (mulf (subf (sitofp .bf16 (andi (extui 32 (m ((c.tc : Thread nD τ).loc main_arg1)) natLt_8_32) (broadcastInDim S6144x28672 ![] bcast_S_S6144x28672 (constantI S_ 32 15#32)))) (shapeCast _ (broadcastInDim S96x64x28672 ![0, 2] bcast_S96x28672_S96x64x28672_0_2 (m ((c.tc : Thread nD τ).loc main_arg3))) shapeCasts_S96x64x28672_S6144x28672)) (shapeCast _ (broadcastInDim S96x64x28672 ![0, 2] bcast_S96x28672_S96x64x28672_0_2 (m ((c.tc : Thread nD τ).loc main_arg2))) shapeCasts_S96x64x28672_S6144x28672)) bitsLt_bf16_f32) (mulf (broadcastInDim S6144x28672 ![] bcast_S_S6144x28672 (constant S_ .f32 0x40000000#32)) (Host.dotGeneral dot_S6144x32_S32x28672_S6144x28672_1_0_0_1_n_n none (Host.slice S6144x32 ![0, 0] ![2, 1] (m ((c.tc : Thread nD τ).loc main_arg4)) slicesBy_S12288x32_S6144x32_0s2_0s1) (m ((c.tc : Thread nD τ).loc main_arg5))))) (addf (extf .f32 (mulf (subf (sitofp .bf16 (andi (extui 32 (m ((c.tc : Thread nD τ).loc main_arg1)) natLt_8_32) (broadcastInDim S6144x28672 ![] bcast_S_S6144x28672 (constantI S_ 32 15#32)))) (shapeCast _ (broadcastInDim S96x64x28672 ![0, 2] bcast_S96x28672_S96x64x28672_0_2 (m ((c.tc : Thread nD τ).loc main_arg3))) shapeCasts_S96x64x28672_S6144x28672)) (shapeCast _ (broadcastInDim S96x64x28672 ![0, 2] bcast_S96x28672_S96x64x28672_0_2 (m ((c.tc : Thread nD τ).loc main_arg2))) shapeCasts_S96x64x28672_S6144x28672)) bitsLt_bf16_f32) (mulf (broadcastInDim S6144x28672 ![] bcast_S_S6144x28672 (constant S_ .f32 0x40000000#32)) (Host.dotGeneral dot_S6144x32_S32x28672_S6144x28672_1_0_0_1_n_n none (Host.slice S6144x32 ![0, 0] ![2, 1] (m ((c.tc : Thread nD τ).loc main_arg4)) slicesBy_S12288x32_S6144x32_0s2_0s1) (m ((c.tc : Thread nD τ).loc main_arg5)))))) (constant S_ .f32 0x00000000#32) reducesTo_S6144x28672_S28672_d0 h_S_) (Host.reduceAdd (mulf (addf (extf .f32 (mulf (subf (sitofp .bf16 (andi (Host.shrsi (extui 32 (m ((c.tc : Thread nD τ).loc main_arg1)) natLt_8_32) (broadcastInDim S6144x28672 ![] bcast_S_S6144x28672 (constantI S_ 32 4#32))) (broadcastInDim S6144x28672 ![] bcast_S_S6144x28672 (constantI S_ 32 15#32)))) (shapeCast _ (broadcastInDim S96x64x28672 ![0, 2] bcast_S96x28672_S96x64x28672_0_2 (m ((c.tc : Thread nD τ).loc main_arg3))) shapeCasts_S96x64x28672_S6144x28672)) (shapeCast _ (broadcastInDim S96x64x28672 ![0, 2] bcast_S96x28672_S96x64x28672_0_2 (m ((c.tc : Thread nD τ).loc main_arg2))) shapeCasts_S96x64x28672_S6144x28672)) bitsLt_bf16_f32) (mulf (broadcastInDim S6144x28672 ![] bcast_S_S6144x28672 (constant S_ .f32 0x40000000#32)) (Host.dotGeneral dot_S6144x32_S32x28672_S6144x28672_1_0_0_1_n_n none (Host.slice S6144x32 ![1, 0] ![2, 1] (m ((c.tc : Thread nD τ).loc main_arg4)) slicesBy_S12288x32_S6144x32_1s2_0s1) (m ((c.tc : Thread nD τ).loc main_arg5))))) (addf (extf .f32 (mulf (subf (sitofp .bf16 (andi (Host.shrsi (extui 32 (m ((c.tc : Thread nD τ).loc main_arg1)) natLt_8_32) (broadcastInDim S6144x28672 ![] bcast_S_S6144x28672 (constantI S_ 32 4#32))) (broadcastInDim S6144x28672 ![] bcast_S_S6144x28672 (constantI S_ 32 15#32)))) (shapeCast _ (broadcastInDim S96x64x28672 ![0, 2] bcast_S96x28672_S96x64x28672_0_2 (m ((c.tc : Thread nD τ).loc main_arg3))) shapeCasts_S96x64x28672_S6144x28672)) (shapeCast _ (broadcastInDim S96x64x28672 ![0, 2] bcast_S96x28672_S96x64x28672_0_2 (m ((c.tc : Thread nD τ).loc main_arg2))) shapeCasts_S96x64x28672_S6144x28672)) bitsLt_bf16_f32) (mulf (broadcastInDim S6144x28672 ![] bcast_S_S6144x28672 (constant S_ .f32 0x40000000#32)) (Host.dotGeneral dot_S6144x32_S32x28672_S6144x28672_1_0_0_1_n_n none (Host.slice S6144x32 ![1, 0] ![2, 1] (m ((c.tc : Thread nD τ).loc main_arg4)) slicesBy_S12288x32_S6144x32_1s2_0s1) (m ((c.tc : Thread nD τ).loc main_arg5)))))) (constant S_ .f32 0x00000000#32) reducesTo_S6144x28672_S28672_d0 h_S_))

variable (m : (ℓ : Loc nD τ sig) → Buf (Elt Ideal) ℓ) (c : Dev nD)

/-- The reference's arguments on device `c`, as functions of the coordinates. -/
def args : Spec.Args where
  x b s k := m ((c.tc : Thread nD τ).loc main_arg0) (ix3 b s k)
  codes k n := m ((c.tc : Thread nD τ).loc main_arg1) (ix2 k n)
  scales g n := m ((c.tc : Thread nD τ).loc main_arg2) (ix2 g n)
  zeros g n := m ((c.tc : Thread nD τ).loc main_arg3) (ix2 g n)
  a k l := m ((c.tc : Thread nD τ).loc main_arg4) (ix2 k l)
  b l n := m ((c.tc : Thread nD τ).loc main_arg5) (ix2 l n)
  mag n := m ((c.tc : Thread nD τ).loc main_arg6) (ix1 n)

/-- The host's shift by four places is the vector unit's. -/
theorem shift_four (w : BitVec 32) : IntOp.shrsi ArithUnit.host w 4#32 = IntOp.shrsi ArithUnit.vector w 4#32 :=
  shrsi_unit _ _ _ _

/-- The odd row, with its two summands in the other order. -/
theorem odd_eq (k : Fin 6144) (h : 1 + 2 * k.val < 12288) : (⟨1 + 2 * k.val, h⟩ : Fin 12288) = Spec.odd k :=
  Fin.ext (Nat.add_comm _ _)

/-- The reference's output, entry by entry. -/
theorem out_apply (b : Fin 2) (s : Fin 3072) (n : Fin 28672) :
    res_main_v46 (F := Ideal) m c (ix3 b s n) = Spec.out (args m c) b s n := by
  pointwise [res_main_v46]
  simp only [shift_four, odd_eq]
  rfl

/-- The reference's output is the specified one. -/
theorem out_eq : res_main_v46 (F := Ideal) m c = fun i => Spec.out (args m c) (i 0) (i 1) (i 2) := by
  funext i
  rw [eq_ix3 i]
  exact out_apply m c _ _ _

/-- The reference's column lengths, entry by entry. -/
theorem norm_apply (n : Fin 28672) : lengths (F := Ideal) m c (ix1 n) = Spec.norm (args m c) n := by
  pointwise [lengths]
  simp only [shift_four, odd_eq]
  rfl

/-- The reference's column lengths are the specified ones. -/
theorem norm_eq : lengths (F := Ideal) m c = fun i => Spec.norm (args m c) (i 0) := by
  funext i
  rw [eq_ix1 i]
  exact norm_apply m c _

/-- THE RUN, READ: every weakly fair execution terminates with the two results at the specified values and the arguments
    unchanged. -/
theorem run_spec (ρ : Dev nD → PrngReg) : θ_run defs (onTc (τ := τ) (main (F := Ideal))) ⟨m, fun _ => 0, ρ⟩ fun r => ∀ c : Dev nD,
      r.2.mem ((c.tc : Thread nD τ).loc main_v46) = (fun i => Spec.out (args m c) (i 0) (i 1) (i 2))
      ∧ r.2.mem ((c.tc : Thread nD τ).loc main_v34) = (fun i => Spec.norm (args m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out_eq m c), (h c).2.1.trans (norm_eq m c), (h c).2.2⟩)
    (run m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.IdealFrame
public import proofs.«01_k».proof.Proof.Gen.ReferenceIdeal
public import proofs.«01_k».proof.Proof.Gen.ReferenceIdeal.Run
public import proofs.«01_k».proof.Proof.Arrays
public import proofs.«01_k».proof.Proof.ReferenceValue
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The program the kernel is, as compiled: it terminates, its arguments unchanged, every counter at zero. -/
theorem frame_p : Cert.quiescent_Kernel (hKernel := Cert.Kernel.Gen.facts) := fun m ρ _ => Cert.Kernel.Gen.frame m ρ

/-- The same of the idealized program. -/
theorem frame_pi : Cert.quiescent_KernelIdeal (hKernelIdeal := Cert.KernelIdeal.Gen.facts) := fun m ρ _ =>
  Cert.KernelIdeal.Tile.frame_ideal m ρ

/-- The same of the reference: its run's arguments, and it declares no semaphore. -/
theorem frame_ri : Cert.quiescent_ReferenceIdeal (hReferenceIdeal := Cert.ReferenceIdeal.Gen.facts) := by
  intro m ρ _
  exact (θ_run Cert.ReferenceIdeal.defs _ _).mono (fun r h => ⟨fun c => (h c).2.2,
    Idealize.ShloMosaic.sem_eq_zero_of_no_sems (by decide) r.2⟩) (Cert.ReferenceIdeal.Value.run m ρ)

/-- The one rewrite between the two, the packed pair of half-width rows: its two statements. -/
theorem preserves : Cert.preserves_Kernel_KernelIdeal :=
  ⟨IdealRules.bf16_pair.packStatement _, IdealRules.bf16_pair.statement _ _⟩

/-- Memories that agree on the arguments give the two programs the same functions of the coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.args m' c = Cert.KernelIdeal.Tile.args m c :=
  Spec.Args.ext (funext fun b => funext fun s => funext fun k => congrFun h.1 (ix3 b s k))
    (funext fun k => funext fun n => congrFun h.2.1 (ix2 k n))
    (funext fun g => funext fun n => congrFun h.2.2.1 (ix2 g n))
    (funext fun g => funext fun n => congrFun h.2.2.2.1 (ix2 g n))
    (funext fun k => funext fun l => congrFun h.2.2.2.2.1 (ix2 k l))
    (funext fun l => funext fun n => congrFun h.2.2.2.2.2.1 (ix2 l n))
    (funext fun n => congrFun h.2.2.2.2.2.2 (ix1 n))

/-- The value claim: over the extended reals both of the kernel's results are the reference's, on all arguments. Each
    program's results are the specified functions of its arguments, and the arguments agree. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c i => Spec.out (Cert.KernelIdeal.Tile.args m c) (i 0) (i 1) (i 2),
    fun c i => Spec.norm (Cert.KernelIdeal.Tile.args m c) (i 0), Cert.KernelIdeal.Tile.run_spec m g, ?_⟩
  refine (θ_run Cert.ReferenceIdeal.defs _ _).mono (fun r hr c => ?_) (Cert.ReferenceIdeal.Value.run_spec m' g')
  have e := args_eq m m' c (h c)
  refine ⟨(hr c).1.trans ?_, (hr c).2.1.trans ?_, (hr c).2.2⟩
  · rw [e]; rfl
  · rw [e]; rfl

/-- Everything claimed. -/
theorem claim : Cert.Claim := ⟨Cert.Kernel.Gen.facts, Cert.KernelIdeal.Gen.facts, Cert.ReferenceIdeal.Gen.facts,
  frame_p, frame_pi, frame_ri, preserves, algebraic⟩

end Cert.Proof

end
